-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S31x128x1024 : Shape := ⟨3, ![31, 128, 1024]⟩
abbrev S31 : Shape := ⟨1, ![31]⟩
abbrev S_ : Shape := ⟨0, ![]⟩
abbrev S128x128 : Shape := ⟨2, ![128, 128]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S128x2048, .f32⟩
  | .local _ .vmem, ⟨0, _⟩ => ⟨S4096x128, .bf16⟩
  | .local _ .vmem, ⟨1, _⟩ => ⟨S128x2048, .bf16⟩
  | .local _ .vmem, ⟨2, _⟩ => ⟨S128x2048, .f32⟩
  | .local _ .vmem, ⟨3, _⟩ => ⟨S128x2048, .bf16⟩
  | .local _ .vmem, ⟨4, _⟩ => ⟨S31x128x1024, .bf16⟩
  | .local _ .vmem, ⟨5, _⟩ => ⟨S31x128x1024, .bf16⟩
  | .local _ .vmem, ⟨6, _⟩ => ⟨S31x128x1024, .bf16⟩
  | .local _ .vmem, ⟨7, _⟩ => ⟨S31x128x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 2 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v31 : BitVec 32 := Scalar.muli v13 c1_i32_17
  let v32 : BitVec 32 := Scalar.addi c0_i32_18 v31
  v32.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20 : BitVec 32 := 1#32
  let v33 : BitVec 32 := Scalar.muli v24 c1_i32_20
  let v34 : BitVec 32 := Scalar.addi c0_i32_21 v33
  v34.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_22 : BitVec 32 := 1#32
  let v35 : BitVec 32 := Scalar.subi v2 c1_i32_22
  let c32_i32_23 : BitVec 32 := 32#32
  let c0_i32_24 : BitVec 32 := 0#32
  let v36 : BitVec 1 := Scalar.cmpi .eq c32_i32_23 c0_i32_24
  let c1_i32_25 : BitVec 32 := 1#32
  let v37 : BitVec 32 := Scalar.select v36 c1_i32_25 c32_i32_23
  let v38 : BitVec 32 := Scalar.remsi v35 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c128_i32 : BitVec 32 := 128#32
  let v46 : BitVec 32 := Scalar.muli v45 c128_i32
  let v47 : Index := Scalar.indexCast v46
  let c0_29 : Index := 0#32
  ![v47.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_35 : BitVec 32 := 1#32
  let v56 : BitVec 32 := Scalar.addi v2 c1_i32_35
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c128_i32_42 : BitVec 32 := 128#32
  let v67 : BitVec 32 := Scalar.muli v66 c128_i32_42
  let v68 : Index := Scalar.indexCast v67
  let c0_43 : Index := 0#32
  ![v68.toNat, 0]
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_53 : BitVec 32 := 1#32
  let v77 : BitVec 32 := Scalar.muli v24 c1_i32_53
  let v78 : BitVec 32 := Scalar.addi c0_i32_54 v77
  v78.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v87 : BitVec 32 := Scalar.muli v13 c1_i32_63
  let v88 : BitVec 32 := Scalar.addi c0_i32_64 v87
  v88.toNat
def k0_off3 (d0 : Dev nD) (c0_i32_69 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v97 : BitVec 32 := Scalar.subi v2 c0_i32_69
  let c2_i32_70 : BitVec 32 := 2#32
  let v98 : BitVec 32 := Scalar.subi v97 c2_i32_70
  let c32_i32_71 : BitVec 32 := 32#32
  let c0_i32_72 : BitVec 32 := 0#32
  let v99 : BitVec 1 := Scalar.cmpi .eq c32_i32_71 c0_i32_72
  let c1_i32_73 : BitVec 32 := 1#32
  let v100 : BitVec 32 := Scalar.select v99 c1_i32_73 c32_i32_71
  let v101 : BitVec 32 := Scalar.remsi v98 v100
  let c0_i32_75 : BitVec 32 := 0#32
  let v103 : BitVec 1 := Scalar.cmpi .slt v101 c0_i32_75
  let c0_i32_76 : BitVec 32 := 0#32
  let v104 : BitVec 1 := Scalar.cmpi .slt v100 c0_i32_76
  let v105 : BitVec 1 := Scalar.xori v103 v104
  let c0_i32_74 : BitVec 32 := 0#32
  let v102 : BitVec 1 := Scalar.cmpi .ne v101 c0_i32_74
  let v106 : BitVec 1 := Scalar.andi v105 v102
  let v107 : BitVec 32 := Scalar.addi v101 v100
  let v108 : BitVec 32 := Scalar.select v106 v107 v101
  let c128_i32_77 : BitVec 32 := 128#32
  let v109 : BitVec 32 := Scalar.muli v108 c128_i32_77
  let v110 : Index := Scalar.indexCast v109
  let c0_78 : Index := 0#32
  ![v110.toNat, 0]
def k0_off4 (d0 : Dev nD) (c0_i32_82 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v115 : BitVec 32 := Scalar.addi v2 c0_i32_82
  let c2_i32_83 : BitVec 32 := 2#32
  let v116 : BitVec 32 := Scalar.addi v115 c2_i32_83
  let c32_i32_84 : BitVec 32 := 32#32
  let c0_i32_85 : BitVec 32 := 0#32
  let v117 : BitVec 1 := Scalar.cmpi .eq c32_i32_84 c0_i32_85
  let c1_i32_86 : BitVec 32 := 1#32
  let v118 : BitVec 32 := Scalar.select v117 c1_i32_86 c32_i32_84
  let v119 : BitVec 32 := Scalar.remsi v116 v118
  let c0_i32_88 : BitVec 32 := 0#32
  let v121 : BitVec 1 := Scalar.cmpi .slt v119 c0_i32_88
  let c0_i32_89 : BitVec 32 := 0#32
  let v122 : BitVec 1 := Scalar.cmpi .slt v118 c0_i32_89
  let v123 : BitVec 1 := Scalar.xori v121 v122
  let c0_i32_87 : BitVec 32 := 0#32
  let v120 : BitVec 1 := Scalar.cmpi .ne v119 c0_i32_87
  let v124 : BitVec 1 := Scalar.andi v123 v120
  let v125 : BitVec 32 := Scalar.addi v119 v118
  let v126 : BitVec 32 := Scalar.select v124 v125 v119
  let c128_i32_90 : BitVec 32 := 128#32
  let v127 : BitVec 32 := Scalar.muli v126 c128_i32_90
  let v128 : Index := Scalar.indexCast v127
  let c0_91 : Index := 0#32
  ![v128.toNat, 0]
def k0_dev5 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_148 : BitVec 32 := 1#32
  let v177 : BitVec 32 := Scalar.muli v24 c1_i32_148
  let v178 : BitVec 32 := Scalar.addi c0_i32_149 v177
  v178.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_158 : BitVec 32 := 1#32
  let v187 : BitVec 32 := Scalar.muli v13 c1_i32_158
  let v188 : BitVec 32 := Scalar.addi c0_i32_159 v187
  v188.toNat
def k0_dev7 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_243 : BitVec 32 := 1#32
  let v277 : BitVec 32 := Scalar.muli v24 c1_i32_243
  let v278 : BitVec 32 := Scalar.addi c0_i32_244 v277
  v278.toNat
def k0_dev8 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_253 : BitVec 32 := 1#32
  let v287 : BitVec 32 := Scalar.muli v13 c1_i32_253
  let v288 : BitVec 32 := Scalar.addi c0_i32_254 v287
  v288.toNat
def k0_dev9 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_337 : BitVec 32 := 1#32
  let v377 : BitVec 32 := Scalar.muli v24 c1_i32_337
  let v378 : BitVec 32 := Scalar.addi c0_i32_338 v377
  v378.toNat
def k0_dev10 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_347 : BitVec 32 := 1#32
  let v387 : BitVec 32 := Scalar.muli v13 c1_i32_347
  let v388 : BitVec 32 := Scalar.addi c0_i32_348 v387
  v388.toNat
def k0_dev11 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_431 : BitVec 32 := 1#32
  let v477 : BitVec 32 := Scalar.muli v24 c1_i32_431
  let v478 : BitVec 32 := Scalar.addi c0_i32_432 v477
  v478.toNat
def k0_dev12 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_441 : BitVec 32 := 1#32
  let v487 : BitVec 32 := Scalar.muli v13 c1_i32_441
  let v488 : BitVec 32 := Scalar.addi c0_i32_442 v487
  v488.toNat
def k0_dev13 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_525 : BitVec 32 := 1#32
  let v577 : BitVec 32 := Scalar.muli v24 c1_i32_525
  let v578 : BitVec 32 := Scalar.addi c0_i32_526 v577
  v578.toNat
def k0_dev14 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_535 : BitVec 32 := 1#32
  let v587 : BitVec 32 := Scalar.muli v13 c1_i32_535
  let v588 : BitVec 32 := Scalar.addi c0_i32_536 v587
  v588.toNat
def k0_dev15 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_619 : BitVec 32 := 1#32
  let v677 : BitVec 32 := Scalar.muli v24 c1_i32_619
  let v678 : BitVec 32 := Scalar.addi c0_i32_620 v677
  v678.toNat
def k0_dev16 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_629 : BitVec 32 := 1#32
  let v687 : BitVec 32 := Scalar.muli v13 c1_i32_629
  let v688 : BitVec 32 := Scalar.addi c0_i32_630 v687
  v688.toNat
def k0_dev17 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_713 : BitVec 32 := 1#32
  let v777 : BitVec 32 := Scalar.muli v24 c1_i32_713
  let v778 : BitVec 32 := Scalar.addi c0_i32_714 v777
  v778.toNat
def k0_dev18 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_723 : BitVec 32 := 1#32
  let v787 : BitVec 32 := Scalar.muli v13 c1_i32_723
  let v788 : BitVec 32 := Scalar.addi c0_i32_724 v787
  v788.toNat
def k0_dev19 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_807 : BitVec 32 := 1#32
  let v877 : BitVec 32 := Scalar.muli v24 c1_i32_807
  let v878 : BitVec 32 := Scalar.addi c0_i32_808 v877
  v878.toNat
def k0_dev20 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_817 : BitVec 32 := 1#32
  let v887 : BitVec 32 := Scalar.muli v13 c1_i32_817
  let v888 : BitVec 32 := Scalar.addi c0_i32_818 v887
  v888.toNat
def k0_dev21 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_901 : BitVec 32 := 1#32
  let v977 : BitVec 32 := Scalar.muli v24 c1_i32_901
  let v978 : BitVec 32 := Scalar.addi c0_i32_902 v977
  v978.toNat
def k0_dev22 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_911 : BitVec 32 := 1#32
  let v987 : BitVec 32 := Scalar.muli v13 c1_i32_911
  let v988 : BitVec 32 := Scalar.addi c0_i32_912 v987
  v988.toNat
def k0_dev23 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_995 : BitVec 32 := 1#32
  let v1077 : BitVec 32 := Scalar.muli v24 c1_i32_995
  let v1078 : BitVec 32 := Scalar.addi c0_i32_996 v1077
  v1078.toNat
def k0_dev24 (d0 : Dev nD) : Nat :=
  let c0_i32_1006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1005 : BitVec 32 := 1#32
  let v1087 : BitVec 32 := Scalar.muli v13 c1_i32_1005
  let v1088 : BitVec 32 := Scalar.addi c0_i32_1006 v1087
  v1088.toNat
def k0_dev25 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1089 : BitVec 32 := 1#32
  let v1177 : BitVec 32 := Scalar.muli v24 c1_i32_1089
  let v1178 : BitVec 32 := Scalar.addi c0_i32_1090 v1177
  v1178.toNat
def k0_dev26 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1099 : BitVec 32 := 1#32
  let v1187 : BitVec 32 := Scalar.muli v13 c1_i32_1099
  let v1188 : BitVec 32 := Scalar.addi c0_i32_1100 v1187
  v1188.toNat
def k0_dev27 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1183 : BitVec 32 := 1#32
  let v1277 : BitVec 32 := Scalar.muli v24 c1_i32_1183
  let v1278 : BitVec 32 := Scalar.addi c0_i32_1184 v1277
  v1278.toNat
def k0_dev28 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1193 : BitVec 32 := 1#32
  let v1287 : BitVec 32 := Scalar.muli v13 c1_i32_1193
  let v1288 : BitVec 32 := Scalar.addi c0_i32_1194 v1287
  v1288.toNat
def k0_dev29 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1277 : BitVec 32 := 1#32
  let v1377 : BitVec 32 := Scalar.muli v24 c1_i32_1277
  let v1378 : BitVec 32 := Scalar.addi c0_i32_1278 v1377
  v1378.toNat
def k0_dev30 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1287 : BitVec 32 := 1#32
  let v1387 : BitVec 32 := Scalar.muli v13 c1_i32_1287
  let v1388 : BitVec 32 := Scalar.addi c0_i32_1288 v1387
  v1388.toNat
def k0_dev31 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1371 : BitVec 32 := 1#32
  let v1477 : BitVec 32 := Scalar.muli v24 c1_i32_1371
  let v1478 : BitVec 32 := Scalar.addi c0_i32_1372 v1477
  v1478.toNat
def k0_dev32 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1381 : BitVec 32 := 1#32
  let v1487 : BitVec 32 := Scalar.muli v13 c1_i32_1381
  let v1488 : BitVec 32 := Scalar.addi c0_i32_1382 v1487
  v1488.toNat
def k0_dev33 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1465 : BitVec 32 := 1#32
  let v1577 : BitVec 32 := Scalar.muli v24 c1_i32_1465
  let v1578 : BitVec 32 := Scalar.addi c0_i32_1466 v1577
  v1578.toNat
def k0_dev34 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1475 : BitVec 32 := 1#32
  let v1587 : BitVec 32 := Scalar.muli v13 c1_i32_1475
  let v1588 : BitVec 32 := Scalar.addi c0_i32_1476 v1587
  v1588.toNat
def k0_dev35 (d0 : Dev nD) : Nat :=
  let c0_i32_1560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1559 : BitVec 32 := 1#32
  let v1677 : BitVec 32 := Scalar.muli v24 c1_i32_1559
  let v1678 : BitVec 32 := Scalar.addi c0_i32_1560 v1677
  v1678.toNat
def k0_dev36 (d0 : Dev nD) : Nat :=
  let c0_i32_1570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1569 : BitVec 32 := 1#32
  let v1687 : BitVec 32 := Scalar.muli v13 c1_i32_1569
  let v1688 : BitVec 32 := Scalar.addi c0_i32_1570 v1687
  v1688.toNat
def k0_dev37 (d0 : Dev nD) : Nat :=
  let c0_i32_1654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1653 : BitVec 32 := 1#32
  let v1777 : BitVec 32 := Scalar.muli v24 c1_i32_1653
  let v1778 : BitVec 32 := Scalar.addi c0_i32_1654 v1777
  v1778.toNat
def k0_dev38 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1663 : BitVec 32 := 1#32
  let v1787 : BitVec 32 := Scalar.muli v13 c1_i32_1663
  let v1788 : BitVec 32 := Scalar.addi c0_i32_1664 v1787
  v1788.toNat
def k0_dev39 (d0 : Dev nD) : Nat :=
  let c0_i32_1748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1747 : BitVec 32 := 1#32
  let v1877 : BitVec 32 := Scalar.muli v24 c1_i32_1747
  let v1878 : BitVec 32 := Scalar.addi c0_i32_1748 v1877
  v1878.toNat
def k0_dev40 (d0 : Dev nD) : Nat :=
  let c0_i32_1758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1757 : BitVec 32 := 1#32
  let v1887 : BitVec 32 := Scalar.muli v13 c1_i32_1757
  let v1888 : BitVec 32 := Scalar.addi c0_i32_1758 v1887
  v1888.toNat
def k0_dev41 (d0 : Dev nD) : Nat :=
  let c0_i32_1842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1841 : BitVec 32 := 1#32
  let v1977 : BitVec 32 := Scalar.muli v24 c1_i32_1841
  let v1978 : BitVec 32 := Scalar.addi c0_i32_1842 v1977
  v1978.toNat
def k0_dev42 (d0 : Dev nD) : Nat :=
  let c0_i32_1852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1851 : BitVec 32 := 1#32
  let v1987 : BitVec 32 := Scalar.muli v13 c1_i32_1851
  let v1988 : BitVec 32 := Scalar.addi c0_i32_1852 v1987
  v1988.toNat
def k0_dev43 (d0 : Dev nD) : Nat :=
  let c0_i32_1936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1935 : BitVec 32 := 1#32
  let v2077 : BitVec 32 := Scalar.muli v24 c1_i32_1935
  let v2078 : BitVec 32 := Scalar.addi c0_i32_1936 v2077
  v2078.toNat
def k0_dev44 (d0 : Dev nD) : Nat :=
  let c0_i32_1946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1945 : BitVec 32 := 1#32
  let v2087 : BitVec 32 := Scalar.muli v13 c1_i32_1945
  let v2088 : BitVec 32 := Scalar.addi c0_i32_1946 v2087
  v2088.toNat
def k0_dev45 (d0 : Dev nD) : Nat :=
  let c0_i32_2030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2029 : BitVec 32 := 1#32
  let v2177 : BitVec 32 := Scalar.muli v24 c1_i32_2029
  let v2178 : BitVec 32 := Scalar.addi c0_i32_2030 v2177
  v2178.toNat
def k0_dev46 (d0 : Dev nD) : Nat :=
  let c0_i32_2040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2039 : BitVec 32 := 1#32
  let v2187 : BitVec 32 := Scalar.muli v13 c1_i32_2039
  let v2188 : BitVec 32 := Scalar.addi c0_i32_2040 v2187
  v2188.toNat
def k0_dev47 (d0 : Dev nD) : Nat :=
  let c0_i32_2124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2123 : BitVec 32 := 1#32
  let v2277 : BitVec 32 := Scalar.muli v24 c1_i32_2123
  let v2278 : BitVec 32 := Scalar.addi c0_i32_2124 v2277
  v2278.toNat
def k0_dev48 (d0 : Dev nD) : Nat :=
  let c0_i32_2134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2133 : BitVec 32 := 1#32
  let v2287 : BitVec 32 := Scalar.muli v13 c1_i32_2133
  let v2288 : BitVec 32 := Scalar.addi c0_i32_2134 v2287
  v2288.toNat
def k0_dev49 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2217 : BitVec 32 := 1#32
  let v2377 : BitVec 32 := Scalar.muli v24 c1_i32_2217
  let v2378 : BitVec 32 := Scalar.addi c0_i32_2218 v2377
  v2378.toNat
def k0_dev50 (d0 : Dev nD) : Nat :=
  let c0_i32_2228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2227 : BitVec 32 := 1#32
  let v2387 : BitVec 32 := Scalar.muli v13 c1_i32_2227
  let v2388 : BitVec 32 := Scalar.addi c0_i32_2228 v2387
  v2388.toNat
def k0_dev51 (d0 : Dev nD) : Nat :=
  let c0_i32_2312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2311 : BitVec 32 := 1#32
  let v2477 : BitVec 32 := Scalar.muli v24 c1_i32_2311
  let v2478 : BitVec 32 := Scalar.addi c0_i32_2312 v2477
  v2478.toNat
def k0_dev52 (d0 : Dev nD) : Nat :=
  let c0_i32_2322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2321 : BitVec 32 := 1#32
  let v2487 : BitVec 32 := Scalar.muli v13 c1_i32_2321
  let v2488 : BitVec 32 := Scalar.addi c0_i32_2322 v2487
  v2488.toNat
def k0_dev53 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2405 : BitVec 32 := 1#32
  let v2577 : BitVec 32 := Scalar.muli v24 c1_i32_2405
  let v2578 : BitVec 32 := Scalar.addi c0_i32_2406 v2577
  v2578.toNat
def k0_dev54 (d0 : Dev nD) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2415 : BitVec 32 := 1#32
  let v2587 : BitVec 32 := Scalar.muli v13 c1_i32_2415
  let v2588 : BitVec 32 := Scalar.addi c0_i32_2416 v2587
  v2588.toNat
def k0_dev55 (d0 : Dev nD) : Nat :=
  let c0_i32_2500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2499 : BitVec 32 := 1#32
  let v2677 : BitVec 32 := Scalar.muli v24 c1_i32_2499
  let v2678 : BitVec 32 := Scalar.addi c0_i32_2500 v2677
  v2678.toNat
def k0_dev56 (d0 : Dev nD) : Nat :=
  let c0_i32_2510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2509 : BitVec 32 := 1#32
  let v2687 : BitVec 32 := Scalar.muli v13 c1_i32_2509
  let v2688 : BitVec 32 := Scalar.addi c0_i32_2510 v2687
  v2688.toNat
def k0_dev57 (d0 : Dev nD) : Nat :=
  let c0_i32_2594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2593 : BitVec 32 := 1#32
  let v2777 : BitVec 32 := Scalar.muli v24 c1_i32_2593
  let v2778 : BitVec 32 := Scalar.addi c0_i32_2594 v2777
  v2778.toNat
def k0_dev58 (d0 : Dev nD) : Nat :=
  let c0_i32_2604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2603 : BitVec 32 := 1#32
  let v2787 : BitVec 32 := Scalar.muli v13 c1_i32_2603
  let v2788 : BitVec 32 := Scalar.addi c0_i32_2604 v2787
  v2788.toNat
def k0_dev59 (d0 : Dev nD) : Nat :=
  let c0_i32_2688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2687 : BitVec 32 := 1#32
  let v2877 : BitVec 32 := Scalar.muli v24 c1_i32_2687
  let v2878 : BitVec 32 := Scalar.addi c0_i32_2688 v2877
  v2878.toNat
def k0_dev60 (d0 : Dev nD) : Nat :=
  let c0_i32_2698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2697 : BitVec 32 := 1#32
  let v2887 : BitVec 32 := Scalar.muli v13 c1_i32_2697
  let v2888 : BitVec 32 := Scalar.addi c0_i32_2698 v2887
  v2888.toNat
def k0_dev61 (d0 : Dev nD) : Nat :=
  let c0_i32_2782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2781 : BitVec 32 := 1#32
  let v2977 : BitVec 32 := Scalar.muli v24 c1_i32_2781
  let v2978 : BitVec 32 := Scalar.addi c0_i32_2782 v2977
  v2978.toNat
def k0_dev62 (d0 : Dev nD) : Nat :=
  let c0_i32_2792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2791 : BitVec 32 := 1#32
  let v2987 : BitVec 32 := Scalar.muli v13 c1_i32_2791
  let v2988 : BitVec 32 := Scalar.addi c0_i32_2792 v2987
  v2988.toNat
def k0_dev63 (d0 : Dev nD) : Nat :=
  let c0_i32_2876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2875 : BitVec 32 := 1#32
  let v3077 : BitVec 32 := Scalar.muli v24 c1_i32_2875
  let v3078 : BitVec 32 := Scalar.addi c0_i32_2876 v3077
  v3078.toNat
def k0_dev64 (d0 : Dev nD) : Nat :=
  let c0_i32_2886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2885 : BitVec 32 := 1#32
  let v3087 : BitVec 32 := Scalar.muli v13 c1_i32_2885
  let v3088 : BitVec 32 := Scalar.addi c0_i32_2886 v3087
  v3088.toNat
def k0_dev65 (d0 : Dev nD) : Nat :=
  let c0_i32_2975_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2974_r0 : BitVec 32 := 1#32
  let v3198_r0 : BitVec 32 := Scalar.muli v13 c1_i32_2974_r0
  let v3199_r0 : BitVec 32 := Scalar.addi c0_i32_2975_r0 v3198_r0
  v3199_r0.toNat
def k0_dev66 (d0 : Dev nD) : Nat :=
  let c0_i32_2978_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2977_r0 : BitVec 32 := 1#32
  let v3200_r0 : BitVec 32 := Scalar.muli v24 c1_i32_2977_r0
  let v3201_r0 : BitVec 32 := Scalar.addi c0_i32_2978_r0 v3200_r0
  v3201_r0.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Hops.lean ====
/-
# The kernel as a prologue, thirty-one hops and an epilogue

The printed kernel function is cut by statement count into parts that do not respect its loop structure (the loop over the
hops of the ring is unrolled). Here the same program is written with ONE definition of a hop, at a symbolic hop number, and
the printed function is shown to be that program (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL.Sem

variable {F : FTy → Type} [FloatOps F]

/-! ## The buffers and semaphores of the kernel -/

/-- The staged blocks of `x`, of `w` and of the result. -/
abbrev xM : Memref sig .tc .vmem S4096x128 .bf16 := Memref.whole cc0_stg0_0
abbrev wM : Memref sig .tc .vmem S128x2048 .bf16 := Memref.whole cc0_stg1_0
abbrev oM : Memref sig .tc .vmem S128x2048 .f32 := Memref.whole cc0_stg2_0
/-- The kernel's own copy of its block of `w`. -/
abbrev wbM : Memref sig .tc .vmem S128x2048 .bf16 := Memref.whole cc0_scratch0
/-- The send and receive slots of the two directions (to the right: `sp`, `rp`; to the left: `sm`, `rm`). -/
abbrev spM : Memref sig .tc .vmem S31x128x1024 .bf16 := Memref.whole cc0_scratch1
abbrev rpM : Memref sig .tc .vmem S31x128x1024 .bf16 := Memref.whole cc0_scratch2
abbrev smM : Memref sig .tc .vmem S31x128x1024 .bf16 := Memref.whole cc0_scratch3
abbrev rmM : Memref sig .tc .vmem S31x128x1024 .bf16 := Memref.whole cc0_scratch4

/-- Slot `s` lies inside the slots' buffer. -/
theorem slot_inb (s : Fin 31) : ∀ a, (![s.val, 0, 0] : Fin 3 → Nat) a + S1x128x1024.size a ≤ S31x128x1024.size a := by
  revert s; decide
theorem slot_packed (s : Fin 31) : (Rect.unit (s := S31x128x1024) ![s.val, 0, 0] S1x128x1024.size (slot_inb s)).PackedRows (EltTy.packing .bf16) := by
  revert s; decide
theorem slot_words (s : Fin 31) : (Rect.unit (s := S31x128x1024) ![s.val, 0, 0] S1x128x1024.size (slot_inb s)).WholeWords (EltTy.packing .bf16) := by
  revert s; decide
theorem sem_inb (s : Fin 31) : ∀ a, (![s.val] : Fin 1 → Nat) a + S1.size a ≤ S31.size a := by
  revert s; decide

/-- Slot `s` of a slots' buffer, as the rectangle a load or store accesses. -/
abbrev rSlot (s : Fin 31) : Rect S31x128x1024 := Rect.unit (s := S31x128x1024) ![s.val, 0, 0] S1x128x1024.size (slot_inb s)
/-- Slot `s` of a slots' buffer, as the memref a transfer names. -/
abbrev slotM (M : Memref sig .tc .vmem S31x128x1024 .bf16) (s : Fin 31) : Memref sig .tc .vmem S128x1024 .bf16 :=
  (M.slice (rSlot s) (fun _ => rfl)).squeeze S128x1024 squeezes_S1x128x1024_S128x1024
/-- Semaphore `s` of an array of thirty-one. -/
abbrev semI (A : DmaSems sig S31) (s : Fin 31) : DmaSem sig :=
  ((A.slice (Rect.unit (s := S31) ![s.val] S1.size (sem_inb s))).squeeze S_ squeezes_S1_S_).sem

/-- The runtime's barrier semaphore, and the kernel's second barrier (scoped). -/
abbrev barS : Sem sig := (SemArray.scalar (sig.barrier 0 rfl) : Sems sig S_).sem
abbrev bar2S : Sem sig := (cc0_scoped0 : Sems sig S_).sem

/-! ## The accesses -/

abbrev rW : Rect S128x2048 := Rect.unit (s := S128x2048) ![0, 0] S128x2048.size inb_S128x2048_S128x2048_0_0
/-- The left and right halves of the 2048 columns. -/
abbrev rLo : Rect S128x2048 := Rect.unit (s := S128x2048) ![0, 0] S128x1024.size inb_S128x2048_S128x1024_0_0
abbrev rHi : Rect S128x2048 := Rect.unit (s := S128x2048) ![0, 1024] S128x1024.size inb_S128x2048_S128x1024_0_1024
/-- The row blocks of `x` the kernel multiplies: before the hops (1, 2), and during hop `s` (3, 4). -/
abbrev rX1 (c : Dev nD) : Rect S4096x128 := Rect.unit (s := S4096x128) (k0_off1 c) S128x128.size (k0_off1_inb c)
abbrev rX2 (c : Dev nD) : Rect S4096x128 := Rect.unit (s := S4096x128) (k0_off2 c) S128x128.size (k0_off2_inb c)
abbrev rX3 (c : Dev nD) (s : Fin 31) : Rect S4096x128 := Rect.unit (s := S4096x128) (k0_off3 c (BitVec.ofNat 32 s.val)) S128x128.size (k0_off3_inb c s)
abbrev rX4 (c : Dev nD) (s : Fin 31) : Rect S4096x128 := Rect.unit (s := S4096x128) (k0_off4 c (BitVec.ofNat 32 s.val)) S128x128.size (k0_off4_inb c s)

/-- The transfer of hop `s` to the right: slot `s` of `sp` into slot `s` of the right neighbour's `rp`. -/
abbrev sendP (c : Dev nD) (s : Fin 31) : Prog (TpuEff nD τ sig (Elt F) Λ₀ .tc) PUnit :=
  Prog.lift (.enqueueDma (slotM spM s) (.remote (Dev.tc (⟨k0_dev3 c, k0_dev3_lt c⟩ : Dev nD)) (slotM rpM s) (.dma (semI cc0_scratch5 s))) (.dma (semI cc0_scratch6 s))
    (((Memref.isWhole_whole cc0_scratch1).wordExact_slice rfl _ (slot_words s)).reshape _ _)
    (((Memref.isWhole_whole cc0_scratch2).wordExact_slice rfl _ (slot_words s)).reshape _ _) ⟨⟨rfl, Or.inl rfl⟩, trivial⟩)
/-- The transfer of hop `s` to the left. -/
abbrev sendM (c : Dev nD) (s : Fin 31) : Prog (TpuEff nD τ sig (Elt F) Λ₀ .tc) PUnit :=
  Prog.lift (.enqueueDma (slotM smM s) (.remote (Dev.tc (⟨k0_dev4 c, k0_dev4_lt c⟩ : Dev nD)) (slotM rmM s) (.dma (semI cc0_scratch7 s))) (.dma (semI cc0_scratch8 s))
    (((Memref.isWhole_whole cc0_scratch3).wordExact_slice rfl _ (slot_words s)).reshape _ _)
    (((Memref.isWhole_whole cc0_scratch4).wordExact_slice rfl _ (slot_words s)).reshape _ _) ⟨⟨rfl, Or.inl rfl⟩, trivial⟩)

abbrev loadSlot (M : Memref sig .tc .vmem S31x128x1024 .bf16) (s : Fin 31) : Prog (TpuEff nD τ sig (Elt F) Λ₀ .tc) (Vec F S1x128x1024 .bf16) :=
  Prog.lift (.load M (rSlot s).toLoadRect (View.loadsAt_vmem h_S1x128x1024))
abbrev storeSlot (M : Memref sig .tc .vmem S31x128x1024 .bf16) (h : M.IsWhole) (s : Fin 31) (v : FVec F S1x128x1024 .bf16) : Prog (TpuEff nD τ sig (Elt F) Λ₀ .tc) PUnit :=
  Prog.lift (.store M (rSlot s) v Finset.univ (View.stores_vmem h_S1x128x1024 (h.storeExact_slice rfl _ (slot_packed s)) (fun _ => rfl)) (.inl rfl))
abbrev waitSlot (q : DmaSem sig) (b a : Memref sig .tc .vmem S31x128x1024 .bf16) (hb : b.IsWhole) (ha : a.IsWhole) (s : Fin 31) :
    Prog (TpuEff nD τ sig (Elt F) Λ₀ .tc) PUnit :=
  Prog.lift (.waitDma2 q (slotM a s) (slotM b s) ((ha.wordExact_slice rfl _ (slot_words s)).reshape _ _) ((hb.wordExact_slice rfl _ (slot_words s)).reshape _ _))

/-! ## The pieces -/

/-- Before the hops: the kernel's copy of its block of `w`; the handshake with both neighbours on the runtime's barrier
    semaphore; the first partial product of each direction into slot 0. -/
def prologue (c : Dev nD) : Prog (TpuEff nD τ sig (Elt F) Λ₀ .tc) PUnit := do
  let v : Vec F S128x2048 .bf16 ← Prog.lift (.load wM rW.toLoadRect (View.loadsAt_vmem h_S128x2048))
  let _ : Vec F S128x2048 .bf16 ← Prog.lift (.load wbM rW.toLoadRect (View.loadsAt_vmem h_S128x2048))
  Prog.lift (.store wbM rW (k0_pay1 v) Finset.univ
    (View.stores_vmem h_S128x2048 ((Memref.isWhole_whole cc0_scratch0).storeExact_slice rfl _ packedbf16_S128x2048_S128x2048_0_0) (fun _ => rfl)) (.inl rfl))
  semSignalWord (⟨k0_dev1 c, k0_dev1_lt c⟩ : Dev nD) barS 1#32
  semSignalWord (⟨k0_dev2 c, k0_dev2_lt c⟩ : Dev nD) barS 1#32
  semWaitWord barS 2#32
  let x1 : Vec F S128x128 .bf16 ← Prog.lift (.load xM (rX1 c).toLoadRect (View.loadsAt_vmem h_S128x128))
  let w1 : Vec F S128x1024 .bf16 ← Prog.lift (.load wbM rLo.toLoadRect (View.loadsAt_vmem h_S128x1024))
  let _ : Vec F S1x128x1024 .bf16 ← loadSlot spM 0
  storeSlot spM (Memref.isWhole_whole _) 0 (k0_pay2 x1 w1)
  let x2 : Vec F S128x128 .bf16 ← Prog.lift (.load xM (rX2 c).toLoadRect (View.loadsAt_vmem h_S128x128))
  let w2 : Vec F S128x1024 .bf16 ← Prog.lift (.load wbM rHi.toLoadRect (View.loadsAt_vmem h_S128x1024))
  let _ : Vec F S1x128x1024 .bf16 ← loadSlot smM 0
  storeSlot smM (Memref.isWhole_whole _) 0 (k0_pay3 x2 w2)

/-- A hop up to the arrival from the left: both transfers started, both partial products of the next row blocks, the wait
    for the transfer to the right and for the arrival; the products and what arrived. -/
def hopHead (c : Dev nD) (s : Fin 31) :
    Prog (TpuEff nD τ sig (Elt F) Λ₀ .tc) (FVec F S128x1024 .f32 × FVec F S128x1024 .f32 × Vec F S1x128x1024 .bf16) := do
  sendP c s
  sendM c s
  let x1 : Vec F S128x128 .bf16 ← Prog.lift (.load xM (rX3 c s).toLoadRect (View.loadsAt_vmem h_S128x128))
  let w1 : Vec F S128x1024 .bf16 ← Prog.lift (.load wbM rLo.toLoadRect (View.loadsAt_vmem h_S128x1024))
  let x2 : Vec F S128x128 .bf16 ← Prog.lift (.load xM (rX4 c s).toLoadRect (View.loadsAt_vmem h_S128x128))
  let w2 : Vec F S128x1024 .bf16 ← Prog.lift (.load wbM rHi.toLoadRect (View.loadsAt_vmem h_S128x1024))
  waitSlot (semI cc0_scratch5 s) spM rpM (Memref.isWhole_whole _) (Memref.isWhole_whole _) s
  waitSlot (semI cc0_scratch6 s) rpM spM (Memref.isWhole_whole _) (Memref.isWhole_whole _) s
  let r : Vec F S1x128x1024 .bf16 ← loadSlot rpM s
  pure (k0_pay4 x1 w1, k0_pay5 x2 w2, r)

/-- The rest of a hop's arrivals: the wait for the transfer to the left and for the arrival from the right; what arrived. -/
def hopTail (s : Fin 31) : Prog (TpuEff nD τ sig (Elt F) Λ₀ .tc) (Vec F S1x128x1024 .bf16) := do
  waitSlot (semI cc0_scratch7 s) smM rmM (Memref.isWhole_whole _) (Memref.isWhole_whole _) s
  waitSlot (semI cc0_scratch8 s) rmM smM (Memref.isWhole_whole _) (Memref.isWhole_whole _) s
  loadSlot rmM s

/-- Hop `s`, the next hop being `t`: what arrived plus the partial product goes into send slot `t`, in each direction. -/
def hop (c : Dev nD) (s t : Fin 31) : Prog (TpuEff nD τ sig (Elt F) Λ₀ .tc) PUnit := do
  let y ← hopHead c s
  let _ : Vec F S1x128x1024 .bf16 ← loadSlot spM t
  storeSlot spM (Memref.isWhole_whole _) t (k0_pay6 y.1 y.2.2)
  let r ← hopTail s
  let _ : Vec F S1x128x1024 .bf16 ← loadSlot smM t
  storeSlot smM (Memref.isWhole_whole _) t (k0_pay7 y.2.1 r)

/-- The last hop: what arrived plus the device's own partial product, through the activation, is the result. -/
def lastHop (c : Dev nD) : Prog (TpuEff nD τ sig (Elt F) Λ₀ .tc) PUnit := do
  let y ← hopHead c 30
  let r ← hopTail 30
  let _ : Vec F S128x1024 .f32 ← Prog.lift (.load oM rLo.toLoadRect (View.loadsAt_vmem h_S128x1024))
  Prog.lift (.store oM rLo (k0_pay140 (k0_pay138 y.1 y.2.2)) Finset.univ (View.stores_vmem_bits_univ h_S128x1024 rfl) (.inl rfl))
  let _ : Vec F S128x1024 .f32 ← Prog.lift (.load oM rHi.toLoadRect (View.loadsAt_vmem h_S128x1024))
  Prog.lift (.store oM rHi (k0_pay143 (k0_pay141 y.2.1 r) (k0_pay142 y.2.1 r)) Finset.univ (View.stores_vmem_bits_univ h_S128x1024 rfl) (.inl rfl))

/-- After the hops: the second handshake with both neighbours. -/
def epilogue (c : Dev nD) : Prog (TpuEff nD τ sig (Elt F) Λ₀ .tc) PUnit := do
  semSignalWord (⟨k0_dev65 c, k0_dev65_lt c⟩ : Dev nD) bar2S 1#32
  semSignalWord (⟨k0_dev66 c, k0_dev66_lt c⟩ : Dev nD) bar2S 1#32
  semWaitWord bar2S 2#32

/-- The last `n` of the thirty hops before the last one, the last hop and the epilogue. -/
def hops (c : Dev nD) : ℕ → Prog (TpuEff nD τ sig (Elt F) Λ₀ .tc) PUnit
  | 0 => do
    lastHop c
    epilogue c
  | n + 1 => do
    hop c (Fin.ofNat 31 (29 - n)) (Fin.ofNat 31 (30 - n))
    hops c n

/-- The whole kernel function. -/
def body : Prog (TpuEff nD τ sig (Elt F) Λ₀ .tc) PUnit := do
  let c : Dev nD ← Prog.lift .deviceId
  prologue c
  hops c 30

set_option maxRecDepth 1000000 in
/-- The printed kernel function, at the buffers the launch gives it, is the structured program. -/
theorem body_eq : cc0_body (F := F) xM (Memref.isWhole_whole _) wM (Memref.isWhole_whole _) oM (Memref.isWhole_whole _) wbM (Memref.isWhole_whole _)
    spM (Memref.isWhole_whole _) rpM (Memref.isWhole_whole _) smM (Memref.isWhole_whole _) rmM (Memref.isWhole_whole _)
    cc0_scratch5 cc0_scratch6 cc0_scratch7 cc0_scratch8 cc0_scoped0 = body (F := F) := by
  chain_rfl

end Cert.RingProof

end
-- ==== Proof.Schedule.lean ====
/-
# The protocol of the ring: cells, contents, schedule, levels

Every device has two barrier cells (the runtime's barrier, and the kernel's own second one) and four DMA cells for each of
the thirty-one hops: the send and receive cells of the two directions. Every cell runs one round. This module states who
pays each cell, what the payment hands over (with the contents of the transferred slot), and the levels that order the waits.
-/
module

public import proofs.«01_k».proof.Proof.Hops
public import Idealize.ShloMosaic.Lib.SparseCore.ProtocolKit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom sum_finFrom_succ sum_tallyAt_apply_pos)

variable {F : FTy → Type} [FloatOps F]

/-! ## The resource algebra: the pipeline's copy of the rounds (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour. -/
def nxt (c : Dev nD) : Dev nD := ⟨(c.val + 1) % 32, Nat.mod_lt _ (by decide)⟩
set_option backward.proofsInPublic true in
/-- The left neighbour. -/
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

/-- Whom the kernel's device numbers name: its left neighbour first, its right neighbour second; the transfers go right, then
    left; the second barrier signals left, then right. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev65_eq (c : Dev nD) : (⟨k0_dev65 c, k0_dev65_lt c⟩ : Dev nD) = prv c := by revert c; decide +kernel
theorem dev66_eq (c : Dev nD) : (⟨k0_dev66 c, k0_dev66_lt c⟩ : Dev nD) = nxt c := by revert c; decide +kernel

/-- The ring as a permutation of the devices. -/
def ring : Dev nD ≃ Dev nD := ⟨nxt, prv, prv_nxt, nxt_prv⟩

/-! ## The cells -/

abbrev barCell (c : Dev nD) : GSem nD τ sig := ((c : Thread nD τ), .reg barS)
abbrev bar2Cell (c : Dev nD) : GSem nD τ sig := ((c : Thread nD τ), .reg bar2S)
/-- Hop `s`'s cells: the transfer to the right left (`sp`), the one from the left arrived (`rp`), the transfer to the left left
    (`sm`), the one from the right arrived (`rm`). -/
abbrev spCell (c : Dev nD) (s : Fin 31) : GSem nD τ sig := ((c : Thread nD τ), .dma (semI cc0_scratch5 s))
abbrev rpCell (c : Dev nD) (s : Fin 31) : GSem nD τ sig := ((c : Thread nD τ), .dma (semI cc0_scratch6 s))
abbrev smCell (c : Dev nD) (s : Fin 31) : GSem nD τ sig := ((c : Thread nD τ), .dma (semI cc0_scratch7 s))
abbrev rmCell (c : Dev nD) (s : Fin 31) : GSem nD τ sig := ((c : Thread nD τ), .dma (semI cc0_scratch8 s))

/-- Which cell of a device: `inl false` the runtime's barrier, `inl true` the second barrier, `inr (k, s)` hop `s`'s `k`-th. -/
abbrev CK : Type := Bool ⊕ (Fin 4 × Fin 31)
abbrev semA : Fin 4 → DmaSems sig S31 := fun | 0 => cc0_scratch5 | 1 => cc0_scratch6 | 2 => cc0_scratch7 | 3 => cc0_scratch8
abbrev csem : CK → SemLoc sig := fun | .inl false => .reg barS | .inl true => .reg bar2S | .inr (k, s) => .dma (semI (semA k) s)
abbrev kcell (ck : Dev nD × CK) : GSem nD τ sig := ((ck.1 : Thread nD τ), csem ck.2)

/-- The cell a semaphore is, if it is one of the ring's. -/
def ixOf : SemLoc sig → Option CK
  | .reg q => if q = barS then some (.inl false) else some (.inl true)
  | .dma q => if 3 ≤ q.val then some (.inr (Fin.ofNat 4 ((q.val - 3) / 31), Fin.ofNat 31 ((q.val - 3) % 31))) else none

theorem ixOf_dma : ∀ (k : Fin 4) (s : Fin 31), ixOf (.dma (semI (semA k) s)) = some (.inr (k, s)) := by decide +kernel
theorem ixOf_csem (k : CK) : ixOf (csem k) = some k := by
  rcases k with (_ | _) | ⟨k, s⟩
  · decide
  · decide
  · exact ixOf_dma k s
theorem csem_injective : Function.Injective csem := fun a b h => by
  have := congrArg ixOf h; rw [ixOf_csem, ixOf_csem] at this; exact Option.some.inj this
theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

/-- The credit of one slot's transfer. -/
def N : ℕ := (slotM rpM 0).view.dmaCredit
theorem N_pos : 0 < N := View.dmaCredit_pos _ (by decide)
theorem credit_rp (s : Fin 31) : (slotM rpM s).view.dmaCredit = N := rfl
theorem credit_sp (s : Fin 31) : (slotM spM s).view.dmaCredit = N := rfl
theorem credit_rm (s : Fin 31) : (slotM rmM s).view.dmaCredit = N := rfl
theorem credit_sm (s : Fin 31) : (slotM smM s).view.dmaCredit = N := rfl

/-! ## Contents -/

/-- Device `c`'s block of `x` and of `w`, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- The kernel's copy of its block of `w`. -/
def wcp (c : Dev nD) : (cc0_scratch0 : Ref sig .tc).ty.Contents (Elt F) := k0_pay1 (wstg m ρ c)

/-- The rows `r` of the staged block of `x`; the left and right halves of the block of `w`. -/
def xRd (c : Dev nD) (r : Rect S4096x128) : r.toLoadRect.shape.Idx → Elt F .bf16 := xM.view.readAt (Elt F) r.toLoadRect (xstg m ρ c)
def wLo (c : Dev nD) : Vec F S128x1024 .bf16 := wbM.view.readAt (Elt F) rLo.toLoadRect (wcp m ρ c)
def wHi (c : Dev nD) : Vec F S128x1024 .bf16 := wbM.view.readAt (Elt F) rHi.toLoadRect (wcp m ρ c)

theorem cast_in : S128x1024.ShapeCasts S1x128x1024 := by decide
theorem cast_out : S1x128x1024.ShapeCasts S128x1024 := by decide

/-- The partial products hop `s` adds, on device `c`: for what travels right and what travels left. -/
def prodP (c : Dev nD) (s : Fin 31) : FVec F S128x1024 .f32 := k0_pay4 (xRd m ρ c (rX3 c s)) (wLo m ρ c)
def prodM (c : Dev nD) (s : Fin 31) : FVec F S128x1024 .f32 := k0_pay5 (xRd m ρ c (rX4 c s)) (wHi m ρ c)

/-- What device `c` sends to the right at hop `s`: at hop 0 its partial product of one row block, later what arrived from
    the left at the hop before plus its partial product. -/
def pP : ℕ → Dev nD → Vec F S128x1024 .bf16
  | 0, c => shapeCast S128x1024 (k0_pay2 (xRd m ρ c (rX1 c)) (wLo m ρ c)) cast_out
  | s + 1, c => shapeCast S128x1024 (k0_pay6 (prodP m ρ c (Fin.ofNat 31 s)) (shapeCast S1x128x1024 (pP s (prv c)) cast_in)) cast_out
/-- What device `c` sends to the left at hop `s`. -/
def pM : ℕ → Dev nD → Vec F S128x1024 .bf16
  | 0, c => shapeCast S128x1024 (k0_pay3 (xRd m ρ c (rX2 c)) (wHi m ρ c)) cast_out
  | s + 1, c => shapeCast S128x1024 (k0_pay7 (prodM m ρ c (Fin.ofNat 31 s)) (shapeCast S1x128x1024 (pM s (nxt c)) cast_in)) cast_out

/-- The left and right halves of the result on device `c`. -/
def outLo (c : Dev nD) : FVec F S128x1024 .f32 := k0_pay140 (k0_pay138 (prodP m ρ c 30) (shapeCast S1x128x1024 (pP m ρ 30 (prv c)) cast_in))
def outHi (c : Dev nD) : FVec F S128x1024 .f32 :=
  k0_pay143 (k0_pay141 (prodM m ρ c 30) (shapeCast S1x128x1024 (pM m ρ 30 (nxt c)) cast_in))
    (k0_pay142 (prodM m ρ c 30) (shapeCast S1x128x1024 (pM m ρ 30 (nxt c)) cast_in))

/-- The result on device `c`: its two halves side by side. -/
def outAt (c : Dev nD) : (cc0_stg2_0 : Ref sig .tc).ty.Contents (Elt F) := fun i =>
  if h : (i 1).val < 1024 then outLo m ρ c (fun a => ⟨(![(i 0).val, (i 1).val] : Fin 2 → ℕ) a, by
      fin_cases a
      · exact (i 0).isLt
      · exact h⟩)
  else outHi m ρ c (fun a => ⟨(![(i 0).val, (i 1).val - 1024] : Fin 2 → ℕ) a, by
      have h1 : (i 1).val < 2048 := (i 1).isLt
      fin_cases a
      · exact (i 0).isLt
      · show (i 1).val - 1024 < 1024
        omega⟩)

/-! ## Slots -/

/-- Device `c` holds slot `s` of `M`, reading `X`; reading anything. -/
def slotIs (M : Memref sig .tc .vmem S31x128x1024 .bf16) (c : Dev nD) (s : Fin 31) (X : Vec F S128x1024 .bf16) : sProp 𝕄 :=
  owns (c : Thread nD τ) (slotM M s) fullShare X
def slotAny (M : Memref sig .tc .vmem S31x128x1024 .bf16) (c : Dev nD) (s : Fin 31) : sProp 𝕄 := iprop(∃ X, slotIs M c s X)

instance slotIs_storable (M : Memref sig .tc .vmem S31x128x1024 .bf16) (c : Dev nD) (s : Fin 31) (X : Vec F S128x1024 .bf16) :
    BI.Storable (upEmb : UEmb _ 𝕄) (slotIs (F := F) M c s X) := by unfold slotIs; infer_instance
instance slotAny_storable (M : Memref sig .tc .vmem S31x128x1024 .bf16) (c : Dev nD) (s : Fin 31) :
    BI.Storable (upEmb : UEmb _ 𝕄) (slotAny (F := F) M c s) := by unfold slotAny; infer_instance

/-! ## The schedule -/

/-- What the payment of a duty of device `c`'s cell hands over: the barrier's `true` (from the right neighbour) that
    neighbour's slots for what travels right, its `false` (from the left one) that neighbour's slots for what travels left;
    a send cell its slot back; a receive cell its slot holding what the neighbour sent. -/
def pay (c : Dev nD) : CK → Bool → sProp 𝕄
  | .inl false, true => bigSep Finset.univ fun s => slotAny rpM (nxt c) s
  | .inl false, false => bigSep Finset.univ fun s => slotAny rmM (prv c) s
  | .inl true, _ => iprop(emp)
  | .inr (0, s), _ => slotAny spM c s
  | .inr (1, s), _ => slotIs rpM c s (pP m ρ s.val (prv c))
  | .inr (2, s), _ => slotAny smM c s
  | .inr (3, s), _ => slotIs rmM c s (pM m ρ s.val (nxt c))

instance pay_storable (c : Dev nD) (k : CK) (d : Bool) : BI.Storable (upEmb : UEmb _ 𝕄) (pay (F := F) m ρ c k d) := by
  rcases k with (_ | _) | ⟨k, s⟩
  · cases d <;> (unfold pay; infer_instance)
  · unfold pay; infer_instance
  · fin_cases k <;> (simp only [pay]; infer_instance)

def dutiesOf : Option CK → Finset Bool
  | some (.inl _) => Finset.univ
  | some (.inr _) => {false}
  | none => ∅
def amountOf : Option CK → ℕ
  | some (.inl _) => 1
  | _ => N
def payOf (c : Dev nD) : Option CK → Bool → sProp 𝕄
  | some k, d => pay m ρ c k d
  | none, _ => iprop(emp)

/-- One round, round 0: a barrier cell has the two duties `false` (from the left neighbour) and `true` (from the right one) of
    one unit each; a DMA cell the duty `false` of a slot's credit. -/
def ringRd : Rounds.Schedule (GSem nD τ sig) Bool 𝕄 where
  duties g r := if r = 0 ∧ g.1.2 = .tc then dutiesOf (ixOf g.2) else ∅
  unitless _ := False
  amount g _ _ := amountOf (ixOf g.2)
  payload g _ d := payOf m ρ g.1.1 (ixOf g.2) d
  amount_pos g _ _ _ := by
    show 0 < amountOf (ixOf g.2)
    rcases ixOf g.2 with _ | _ | _
    · exact N_pos
    · exact Nat.one_pos
    · exact N_pos

instance ringRd_payload_storable (g : GSem nD τ sig) (r : ℕ) (d : Bool) :
    BI.Storable (upEmb : UEmb _ 𝕄) ((ringRd (F := F) m ρ).payload g r d) := by
  show BI.Storable upEmb (payOf m ρ g.1.1 (ixOf g.2) d)
  rcases ixOf g.2 with _ | k
  · unfold payOf; infer_instance
  · unfold payOf; infer_instance

section Sched
variable (c : Dev nD)

theorem duties_k (k : CK) : (ringRd (F := F) m ρ).duties (kcell (c, k)) 0 = dutiesOf (some k) := by
  show (if 0 = 0 ∧ (kcell (c, k)).1.2 = .tc then dutiesOf (ixOf (csem k)) else ∅) = _
  rw [if_pos ⟨rfl, rfl⟩, ixOf_csem]
theorem duties_later (g : GSem nD τ sig) : ∀ r, 1 ≤ r → (ringRd (F := F) m ρ).duties g r = ∅ :=
  fun r hr => if_neg fun h => by omega
theorem amount_k (k : CK) (d : Bool) : (ringRd (F := F) m ρ).amount (kcell (c, k)) 0 d = amountOf (some k) := by
  show amountOf (ixOf (csem k)) = _
  rw [ixOf_csem]
theorem payload_k (k : CK) (d : Bool) : (ringRd (F := F) m ρ).payload (kcell (c, k)) 0 d = pay m ρ c k d := by
  show payOf m ρ c (ixOf (csem k)) d = _
  rw [ixOf_csem]; rfl

theorem expect_bar (b : Bool) : (ringRd (F := F) m ρ).expect (kcell (c, .inl b)) 0 = 2 := by
  unfold Schedule.expect Schedule.amountOf
  rw [duties_k, Finset.sum_congr rfl fun d _ => amount_k m ρ c (.inl b) d]; rfl
theorem expect_dma (k : Fin 4) (s : Fin 31) : (ringRd (F := F) m ρ).expect (kcell (c, .inr (k, s))) 0 = N := by
  unfold Schedule.expect Schedule.amountOf
  rw [duties_k]; show Finset.sum {false} _ = _
  rw [Finset.sum_singleton, amount_k]; rfl

/-- What a wait for a whole round brings: a barrier's two payments, a DMA cell's one. -/
theorem rest_bar (b : Bool) : bigSep ((ringRd (F := F) m ρ).duties (kcell (c, .inl b)) 0 \ ∅) (fun d => (ringRd (F := F) m ρ).payload (kcell (c, .inl b)) 0 d)
    = iprop(pay m ρ c (.inl b) false ∗ pay m ρ c (.inl b) true) := by
  rw [Finset.sdiff_empty, duties_k]
  show bigSep (Finset.univ : Finset Bool) _ = _
  rw [bigSep_univ_eq_bigSepL [false, true] (by decide) (by decide), bigSepL_cons_cons, bigSepL_singleton, payload_k, payload_k]; rfl
theorem rest_dma (k : Fin 4) (s : Fin 31) : bigSep ((ringRd (F := F) m ρ).duties (kcell (c, .inr (k, s))) 0 \ ∅)
    (fun d => (ringRd (F := F) m ρ).payload (kcell (c, .inr (k, s))) 0 d) = pay m ρ c (.inr (k, s)) false := by
  rw [Finset.sdiff_empty, duties_k]
  show bigSep ({false} : Finset Bool) _ = _
  rw [bigSep_singleton, payload_k]

end Sched

/-! ## What each device owes, and the levels -/

/-- What hop `s` of device `c` pays to other devices. -/
def owedHop (c : Dev nD) (s : Fin 31) : CellTallies nD τ sig Unit := tallyAt (rmCell (prv c) s) () N + tallyAt (rpCell (nxt c) s) () N
/-- What device `c` owes before hop `k`: the second barrier's signals to its neighbours, and the hops from `k` on; -/
def O (k : ℕ) (c : Dev nD) : CellTallies nD τ sig Unit :=
  tallyAt (bar2Cell (nxt c)) () 1 + tallyAt (bar2Cell (prv c)) () 1 + ∑ s ∈ finFrom 31 k, owedHop c s
/-- before its second and its first signal on the runtime's barrier. -/
def O₁ (c : Dev nD) : CellTallies nD τ sig Unit := O 0 c + tallyAt (barCell (nxt c)) () 1
def O₀ (c : Dev nD) : CellTallies nD τ sig Unit := O₁ c + tallyAt (barCell (prv c)) () 1

theorem O_succ (c : Dev nD) (k : ℕ) (hk : k < 31) :
    O k c = (O (k + 1) c + tallyAt (rmCell (prv c) ⟨k, hk⟩) () N) + tallyAt (rpCell (nxt c) ⟨k, hk⟩) () N := by
  unfold O; rw [sum_finFrom_succ hk, owedHop, add_assoc, add_assoc, add_assoc, add_assoc]

def L (g : GSem nD τ sig) : Finset Unit := if g.1.2 = .tc then {()} else ∅
def lvOf : Option CK → ℕ
  | some (.inl false) => 1
  | some (.inl true) => 40
  | some (.inr (1, s)) => s.val + 2
  | some (.inr (3, s)) => s.val + 2
  | _ => 0
/-- The runtime's barrier at 1, the arrivals of hop `s` at `s + 2`, the second barrier above all of them, everything else at 0. -/
def lv (g : GSem nD τ sig) (_ : Unit) : ℕ := lvOf (ixOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = lvOf (some k) := by
  show lvOf (ixOf (csem k)) = _
  rw [ixOf_csem]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem add_pos_cases {A B : CellTallies nD τ sig Unit} {g : GSem nD τ sig} {u : Unit} (h : 0 < (A + B) g u) : 0 < A g u ∨ 0 < B g u := by
  rw [Pi.add_apply, Finsupp.add_apply] at h; omega

/-- Every cell owed before hop `k` is a device's cell at level at least `k + 2`. -/
theorem O_level (c : Dev nD) (k : ℕ) (hk : k ≤ 31) {g : GSem nD τ sig} {u : Unit} (h : 0 < O k c g u) :
    ∃ c' q, g = kcell (c', q) ∧ k + 2 ≤ lvOf (some q) := by
  unfold O at h
  rcases add_pos_cases h with h | h
  · rcases add_pos_cases h with h | h
    · exact ⟨nxt c, .inl true, tally_pos h, by show k + 2 ≤ 40; omega⟩
    · exact ⟨prv c, .inl true, tally_pos h, by show k + 2 ≤ 40; omega⟩
  · unfold owedHop at h; rw [Finset.sum_add_distrib] at h
    rcases add_pos_cases h with h | h
    · obtain ⟨s, hs, hg, -⟩ := sum_tallyAt_apply_pos h
      rw [mem_finFrom] at hs
      exact ⟨prv c, .inr (3, s), hg, by show k + 2 ≤ s.val + 2; omega⟩
    · obtain ⟨s, hs, hg, -⟩ := sum_tallyAt_apply_pos h
      rw [mem_finFrom] at hs
      exact ⟨nxt c, .inr (1, s), hg, by show k + 2 ≤ s.val + 2; omega⟩

theorem O₀_level (c : Dev nD) {g : GSem nD τ sig} {u : Unit} (h : 0 < O₀ c g u) : ∃ c' q, g = kcell (c', q) ∧ 1 ≤ lvOf (some q) := by
  unfold O₀ O₁ at h
  rcases add_pos_cases h with h | h
  · rcases add_pos_cases h with h | h
    · obtain ⟨c', q, hg, hq⟩ := O_level c 0 (by omega) h
      exact ⟨c', q, hg, by omega⟩
    · exact ⟨nxt c, .inl false, tally_pos h, le_rfl⟩
  · exact ⟨prv c, .inl false, tally_pos h, le_rfl⟩

/-- A device may wait on a cell below the level of everything it owes. -/
theorem mayWait_of (c : Dev nD) (sm : SemLoc sig) (O' : CellTallies nD τ sig Unit) (n : ℕ) (hsm : lvOf (ixOf sm) ≤ n)
    (hO : ∀ g u, 0 < O' g u → ∃ c' q, g = kcell (c', q) ∧ n + 1 ≤ lvOf (some q)) :
    (levAts L lv : sProp 𝕄) ⊢ MayWait (c : Thread nD τ) sm () O' :=
  MayOwe.of_cut (L := L) (lev := lv) n (fun p hp => by rw [Finset.mem_singleton.mp hp, L_tc]; exact Finset.mem_singleton_self _)
    (fun g u hg => by obtain ⟨c', q, rfl, -⟩ := hO g u hg; rw [L_tc]; exact Finset.mem_singleton_self _)
    (fun p hp => by rw [Finset.mem_singleton.mp hp]; exact hsm)
    (fun g u hg => by obtain ⟨c', q, rfl, hq⟩ := hO g u hg; rw [lv_k]; exact hq)

/-- Before hop `k` a device may wait on a cell at level at most `k + 1`. -/
theorem mayWait_O (c : Dev nD) (k : ℕ) (hk : k ≤ 31) (sm : SemLoc sig) (hsm : lvOf (ixOf sm) ≤ k + 1) :
    (levAts L lv : sProp 𝕄) ⊢ MayWait (c : Thread nD τ) sm () (O k c) :=
  mayWait_of c sm _ (k + 1) hsm fun g u h => O_level c k hk h

theorem mayWait_stage (c : Dev nD) (q : DmaSem sig) (hq : ixOf (.dma q) = none) (O' : CellTallies nD τ sig Unit) (hO : O' = O₀ c ∨ O' = 0) :
    (levAts L lv : sProp 𝕄) ⊢ MayWait (c : Thread nD τ) (.dma q) () O' := by
  rcases hO with rfl | rfl
  · exact mayWait_of c _ _ 0 (by rw [hq]; exact le_rfl) fun g u h => O₀_level c h
  · rw [MayWait_zero]; iintro -; iempintro

end Cert.RingProof

end
-- ==== Proof.Steps.lean ====
/-
# One effect at a time: loads, stores, transfers and waits on a slot

The rules for the kernel's four effects on slots, at a symbolic hop, and the two halves of a hop (`wp_hopHead`, `wp_hopTail`)
run once, on a symbolic device, from them.
-/
module

public import proofs.«01_k».proof.Proof.Schedule
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Reading and writing a slot -/

theorem slot_set (M : Memref sig .tc .vmem S31x128x1024 .bf16) (s : Fin 31) : (slotM M s).view.set = M.view.setOn (rSlot s).toLoadRect.set := by
  rw [Memref.set_view_squeeze]; exact View.set_slice _ _
theorem slot_access_set (M : Memref sig .tc .vmem S31x128x1024 .bf16) (s : Fin 31) : (slotM M s).view.set = (M.access (rSlot s)).set :=
  Memref.set_view_squeeze _ _

/-- A load at slot `s` reads, in the load's shape, what the slot reads. -/
theorem slot_read (M : Memref sig .tc .vmem S31x128x1024 .bf16) (s : Fin 31) (f : M.view.ty.Contents (Elt F)) :
    M.view.readAt (Elt F) (rSlot s).toLoadRect f = shapeCast S1x128x1024 ((slotM M s).view.read (Elt F) f) cast_in := by
  rw [Memref.read_squeeze_slice M (rSlot s) _ squeezes_S1x128x1024_S128x1024 cast_out f, shapeCast_shapeCast]
/-- After a store at slot `s`, the slot reads, in its shape, what was stored. -/
theorem slot_read_write (M : Memref sig .tc .vmem S31x128x1024 .bf16) (s : Fin 31) (f : M.view.ty.Contents (Elt F)) (v : Vec F S1x128x1024 .bf16) :
    (slotM M s).view.read (Elt F) ((M.access (rSlot s)).write (Elt F) f v Finset.univ) = shapeCast S128x1024 v cast_out := by
  rw [Memref.read_squeeze_slice M (rSlot s) _ squeezes_S1x128x1024_S128x1024 cast_out]
  exact congrArg (fun z => shapeCast S128x1024 z cast_out) (View.read_write_univ (v := M.access (rSlot s)) f v)

theorem wp_load_slot (M : Memref sig .tc .vmem S31x128x1024 .bf16) (c : Dev nD) (s : Fin 31) (X : Vec F S128x1024 .bf16)
    {hl : M.view.LoadsAt (rSlot s).toLoadRect} {α : Type} {Q : α → sProp 𝕄} {k : Vec F S1x128x1024 .bf16 → Prog (TpuEff nD τ sig (Elt F) Λ₀ .tc) α} :
    (slotIs M c s X : sProp 𝕄)
      ⊢ iprop((slotIs M c s X -∗ wp frame (wpE (defs₀ (F := F)) 𝒱₀ (c : Thread nD τ) none) Set.univ (k (shapeCast S1x128x1024 X cast_in)) Q)
          -∗ wp frame (wpE (defs₀ (F := F)) 𝒱₀ (c : Thread nD τ) none) Set.univ (.op (.load M (rSlot s).toLoadRect hl) k) Q) := by
  unfold slotIs owns
  iintro ⟨%f, %hf, H⟩ Hk
  iapply (wp_load 𝒱₀ (c : Thread nD τ) none Set.univ (m := M) (by rw [← slot_set M s])) $$ H; iintro H
  rw [slot_read M s f, hf]
  iapply Hk
  iexists f
  isplitr; · (ipureintro; exact hf)
  iexact H

theorem wp_store_slot (M : Memref sig .tc .vmem S31x128x1024 .bf16) (c : Dev nD) (s : Fin 31) (v : Vec F S1x128x1024 .bf16)
    {hx : (M.access (rSlot s)).Stores Finset.univ} {hm : (Finset.univ : Finset (rSlot s).shape.Idx) = Finset.univ ∨ ∀ a, (rSlot s).stride a = 1}
    {α : Type} {Q : α → sProp 𝕄} {k : PUnit → Prog (TpuEff nD τ sig (Elt F) Λ₀ .tc) α} :
    (slotAny M c s : sProp 𝕄)
      ⊢ iprop((slotIs M c s (shapeCast S128x1024 v cast_out) -∗ wp frame (wpE (defs₀ (F := F)) 𝒱₀ (c : Thread nD τ) none) Set.univ (k ⟨⟩) Q)
          -∗ wp frame (wpE (defs₀ (F := F)) 𝒱₀ (c : Thread nD τ) none) Set.univ (.op (.store M (rSlot s) v Finset.univ hx hm) k) Q) := by
  unfold slotAny slotIs owns
  iintro ⟨%X, %f, %hf, H⟩ Hk
  iapply (wp_store 𝒱₀ (c : Thread nD τ) none Set.univ (m := M) (r := rSlot s) (Mk := Finset.univ) (S := (slotM M s).view.set)
    (by rw [slot_access_set M s]; exact subset_rfl)) $$ H; iintro H
  iapply Hk
  iexists ((M.access (rSlot s)).write (Elt F) f v Finset.univ)
  isplitr; · (ipureintro; exact slot_read_write M s f v)
  iexact H

/-! ## Transfers and waits -/

/-- Device `c` owes `O'`, whatever it has waited for. -/
def owesAny (c : Dev nD) (O' : CellTallies nD τ sig Unit) : sProp 𝕄 := iprop(∃ W, owes (c : Thread nD τ) O' W)

/-- The transfer of a slot: the send cell's payment is the slot back, the arrival's is the neighbour's slot holding what was sent. -/
theorem wp_send_slot (A B : Memref sig .tc .vmem S31x128x1024 .bf16) (kA kB : Fin 4) (c n n' : Dev nD) (hn : n' = n) (s : Fin 31) (X : Vec F S128x1024 .bf16)
    (hA : pay m ρ c (.inr (kA, s)) false = slotAny A c s) (hB : pay m ρ n (.inr (kB, s)) false = slotIs B n s X) (hN : (slotM B s).view.dmaCredit = N)
    (κ₁ κ₂ : ℕ) (O' : CellTallies nD τ sig Unit) {hsc : (slotM B s : Memref sig (Dev.tc n' : Thread nD τ).2.kind .vmem S128x1024 .bf16).view.ref.isScScratch = false}
    {hsrc : (slotM A s).view.WordExact} {hdst : (slotM B s).view.WordExact}
    {hsem : DmaTarget.Typed .vmem (.dma (semI (semA kB) s)) (.remote (Dev.tc n' : Thread nD τ) (slotM B s) (.dma (semI (semA kA) s)) hsc)}
    {α : Type} {Q : α → sProp 𝕄} {k : PUnit → Prog (TpuEff nD τ sig (Elt F) Λ₀ .tc) α} :
    iprop(cellInv ER (ringRd m ρ) κ₁ (kcell (c, .inr (kA, s))) ∗ cellInv ER (ringRd m ρ) κ₂ (kcell (n, .inr (kB, s)))
        ∗ slotIs A c s X ∗ slotAny B n s
        ∗ owesAny c (O' + tallyAt (kcell (n, .inr (kB, s))) () N)
        ∗ dutyTok ER (kcell (c, .inr (kA, s))) 0 false ∗ reached ER (kcell (c, .inr (kA, s))) 0
        ∗ dutyTok ER (kcell (n, .inr (kB, s))) 0 false ∗ reached ER (kcell (n, .inr (kB, s))) 0)
      ⊢ iprop(((cred (tallyAt (kcell (c, .inr (kA, s))) () N) ∗ owesAny c O') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM A s) (.remote (Dev.tc n' : Thread nD τ) (slotM B s) (.dma (semI (semA kA) s)) hsc) (.dma (semI (semA kB) s)) hsrc hdst hsem) k) Q) := by
  subst hn
  iintro ⟨#HI1, #HI2, HA, HB, HO, Ht1, #Hr1, Ht2, #Hr2⟩ Hk
  unfold slotIs slotAny
  unfold slotIs owns owesAny
  icases HA with ⟨%fs, %hfs, HA⟩
  icases HB with ⟨%Y, %fd, %hfd, HB⟩
  icases HO with ⟨%W, HO⟩
  iapply (Rounds.wp_send_pointsTo 𝒱₀ ER (ringRd m ρ) (c : Thread nD τ) none (c' := (Dev.tc n' : Thread nD τ)) (dst := slotM B s) (sem := .dma (semI (semA kB) s)) (κ₁ := κ₁) (κ₂ := κ₂) (fs := fs)
    (r₁ := 0) (r₂ := 0) (d₁ := false) (d₂ := false) (fd := fd)
    (by rw [duties_k m ρ c (.inr (kA, s))]; exact Finset.mem_singleton_self _) (by rw [duties_k m ρ n' (.inr (kB, s))]; exact Finset.mem_singleton_self _)
    () () N hN (amount_k m ρ c (.inr (kA, s)) false) (amount_k m ρ n' (.inr (kB, s)) false) O' rfl (W := W)
    (by
      rw [payload_k m ρ c (.inr (kA, s)), hA]; unfold slotAny slotIs owns
      iintro H; iexists X; iexists fs; isplitr; · (ipureintro; exact hfs)
      iexact H)
    (by
      rw [payload_k m ρ n' (.inr (kB, s)), hB]; unfold slotIs owns
      iintro H; iexists ((slotM B s).view.write (Elt F) fd ((slotM A s).view.read (Elt F) fs) Finset.univ); isplitr
      · ipureintro; exact (View.read_write_univ _ _).trans hfs
      iexact H)) $$ [HA HB HO Ht1 Ht2]
  · isplitr; · iexact HI1
    isplitr; · iexact HI2
    isplitl [HA]; · iexact HA
    isplitl [HB]; · iexact HB
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for a slot's transfer, the cell then closed: its payment, and its counter at zero. -/
theorem wp_wait_slot (b a : Memref sig .tc .vmem S31x128x1024 .bf16) (kk : Fin 4) (c : Dev nD) (s : Fin 31)
    (hN : (slotM b s).view.dmaCredit = N) (κ : ℕ) (O' : CellTallies nD τ sig Unit)
    {h1 : (slotM a s).view.WordExact} {h2 : (slotM b s).view.WordExact}
    {α : Type} {Q : α → sProp 𝕄} {k : PUnit → Prog (TpuEff nD τ sig (Elt F) Λ₀ .tc) α} :
    iprop(cellInv ER (ringRd m ρ) κ (kcell (c, .inr (kk, s))) ∗ cred (tallyAt (kcell (c, .inr (kk, s))) () N) ∗ owesAny c O'
        ∗ MayWait (c : Thread nD τ) (.dma (semI (semA kk) s)) () O' ∗ atPos ER (kcell (c, .inr (kk, s))) 0 ∅ 0)
      ⊢ iprop(((owesAny c O' ∗ semVal (kcell (c, .inr (kk, s))) 0 ∗ pay m ρ c (.inr (kk, s)) false)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (semI (semA kk) s) (slotM a s) (slotM b s) h1 h2) k) Q) := by
  iintro ⟨#HI, Hc, HO, Hm, Hat⟩ Hk
  unfold owesAny
  icases HO with ⟨%W, HO⟩
  iapply (Rounds.wp_wait_rest_token 𝒱₀ ER (ringRd m ρ) (c : Thread nD τ) none (κ := κ) (sm := .dma (semI (semA kk) s)) (k' := N)
      (fun K => by rw [wpE_waitDma2_eq 𝒱₀ (c : Thread nD τ) none Set.univ, hN]) (Set.mem_univ _) () (O := O') (W := W) (R := 0) (m := 0) (T := ∅)
      (by rw [Nat.zero_add]; exact (expect_dma m ρ c kk s).symm)) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rest_dma m ρ c kk s)) $$ Hpay
  imod (Rounds.cell_close ER (ringRd m ρ) (Set.mem_univ κ) (fun h => h) (R := 0 + 1) (duties_later m ρ (kcell (c, .inr (kk, s))))) $$ [Hat] with Hz
  · isplitr; · iexact HI
    iexact Hat
  iapply Hk
  isplitl [HO]; · iexists _; iexact HO
  isplitl [Hz]; · iexact Hz
  iexact Hp

/-! ## What every device's body knows, and what a hop uses -/

/-- Every cell's invariant under its name, and that every cell reached its round. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold records; iintro ⟨#HI, #HR⟩
  iapply h; iexact HI
theorem reached_at (K : Dev nD × CK → ℕ) (ck : Dev nD × CK) : records m ρ K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨#HI, #HR⟩
  iapply h; iexact HR

/-- The tokens device `c` holds for hop `s`: the four duties it pays, its positions at its four cells, and the credit of the two
    arrivals. -/
def hopToks (c : Dev nD) (s : Fin 31) : sProp 𝕄 :=
  iprop(dutyTok ER (spCell c s) 0 false ∗ dutyTok ER (rpCell (nxt c) s) 0 false ∗ dutyTok ER (smCell c s) 0 false ∗ dutyTok ER (rmCell (prv c) s) 0 false
    ∗ atPos ER (spCell c s) 0 ∅ 0 ∗ atPos ER (rpCell c s) 0 ∅ 0 ∗ atPos ER (smCell c s) 0 ∅ 0 ∗ atPos ER (rmCell c s) 0 ∅ 0
    ∗ cred (tallyAt (rpCell c s) () N) ∗ cred (tallyAt (rmCell c s) () N))
/-- Those and the two neighbours' slots hop `s` sends into. -/
def hopRes (c : Dev nD) (s : Fin 31) : sProp 𝕄 := iprop(hopToks c s ∗ slotAny rpM (nxt c) s ∗ slotAny rmM (prv c) s)

def xPts (c : Dev nD) : sProp 𝕄 := iprop(((c : Thread nD τ).loc cc0_stg0_0) ↦{fullShare} xstg m ρ c)
def wPts (c : Dev nD) : sProp 𝕄 := iprop(((c : Thread nD τ).loc cc0_scratch0) ↦{fullShare} wcp m ρ c)

/-- What the arrival from the right still uses of hop `s`. -/
def tailRes (c : Dev nD) (s : Fin 31) : sProp 𝕄 :=
  iprop(cred (tallyAt (smCell c s) () N) ∗ cred (tallyAt (rmCell c s) () N) ∗ atPos ER (smCell c s) 0 ∅ 0 ∗ atPos ER (rmCell c s) 0 ∅ 0)

variable (K : Dev nD × CK → ℕ)

set_option maxHeartbeats 1600000 in
/-- The first half of a hop: the two transfers leave, and what the left neighbour sent arrives. -/
theorem wp_hopHead (c : Dev nD) (s : Fin 31) {Q : FVec F S128x1024 .f32 × FVec F S128x1024 .f32 × Vec F S1x128x1024 .bf16 → sProp 𝕄} :
    iprop(records m ρ K ∗ levAts L lv ∗ hopRes c s ∗ slotIs spM c s (pP m ρ s.val c) ∗ slotIs smM c s (pM m ρ s.val c) ∗ owesAny c (O s.val c)
        ∗ xPts m ρ c ∗ wPts m ρ c)
      ⊢ iprop(((slotAny spM c s ∗ slotAny rpM c s ∗ semVal (spCell c s) 0 ∗ semVal (rpCell c s) 0 ∗ tailRes c s ∗ owesAny c (O (s.val + 1) c)
              ∗ xPts m ρ c ∗ wPts m ρ c)
            -∗ Q (prodP m ρ c s, prodM m ρ c s, shapeCast S1x128x1024 (pP m ρ s.val (prv c)) cast_in))
          -∗ wp frame (wpE (defs₀ (F := F)) 𝒱₀ (c : Thread nD τ) none) Set.univ (hopHead c s) Q) := by
  unfold hopHead
  simp only [Prog.lift, Prog.bind_op, Prog.bind_ret, Prog.pure_eq_ret]
  unfold hopRes hopToks xPts wPts
  iintro ⟨#HR, #Hlev, ⟨⟨Ht1, Ht2, Ht3, Ht4, Ha1, Ha2, Ha3, Ha4, Hc2, Hc4⟩, HdR, HdL⟩, Hsp, Hsm, HO, Hx, Hw⟩ Hk
  rw [O_succ c s.val s.isLt]
  -- the transfer to the right
  iapply (wp_send_slot m ρ spM rpM 0 1 c (nxt c) _ (dev3_eq c) s (pP m ρ s.val c) rfl (by simp only [pay]; rw [prv_nxt]) (credit_rp s)
    (K (c, .inr (0, s))) (K (nxt c, .inr (1, s))) (O (s.val + 1) c + tallyAt (rmCell (prv c) s) () N)) $$ [Hsp HdR HO Ht1 Ht2]
  · isplitr; · iapply (inv_at m ρ K (c, .inr (0, s))); iexact HR
    isplitr; · iapply (inv_at m ρ K (nxt c, .inr (1, s))); iexact HR
    isplitl [Hsp]; · iexact Hsp
    isplitl [HdR]; · iexact HdR
    isplitl [HO]; · iexact HO
    isplitl [Ht1]; · iexact Ht1
    isplitr; · iapply (reached_at m ρ K (c, .inr (0, s))); iexact HR
    isplitl [Ht2]; · iexact Ht2
    iapply (reached_at m ρ K (nxt c, .inr (1, s))); iexact HR
  iintro ⟨Hc1, HO⟩
  -- the transfer to the left
  iapply (wp_send_slot m ρ smM rmM 2 3 c (prv c) _ (dev4_eq c) s (pM m ρ s.val c) rfl (by simp only [pay]; rw [nxt_prv]) (credit_rm s)
    (K (c, .inr (2, s))) (K (prv c, .inr (3, s))) (O (s.val + 1) c)) $$ [Hsm HdL HO Ht3 Ht4]
  · isplitr; · iapply (inv_at m ρ K (c, .inr (2, s))); iexact HR
    isplitr; · iapply (inv_at m ρ K (prv c, .inr (3, s))); iexact HR
    isplitl [Hsm]; · iexact Hsm
    isplitl [HdL]; · iexact HdL
    isplitl [HO]; · iexact HO
    isplitl [Ht3]; · iexact Ht3
    isplitr; · iapply (reached_at m ρ K (c, .inr (2, s))); iexact HR
    isplitl [Ht4]; · iexact Ht4
    iapply (reached_at m ρ K (prv c, .inr (3, s))); iexact HR
  iintro ⟨Hc3, HO⟩
  -- the loads
  iapply (wp_load 𝒱₀ (c : Thread nD τ) none Set.univ (m := xM) (Finset.subset_univ _)) $$ Hx; iintro Hx
  iapply (wp_load 𝒱₀ (c : Thread nD τ) none Set.univ (m := wbM) (Finset.subset_univ _)) $$ Hw; iintro Hw
  iapply (wp_load 𝒱₀ (c : Thread nD τ) none Set.univ (m := xM) (Finset.subset_univ _)) $$ Hx; iintro Hx
  iapply (wp_load 𝒱₀ (c : Thread nD τ) none Set.univ (m := wbM) (Finset.subset_univ _)) $$ Hw; iintro Hw
  -- the wait for the transfer to the right, and for the arrival
  iapply (wp_wait_slot m ρ spM rpM 0 c s (credit_sp s) (K (c, .inr (0, s))) (O (s.val + 1) c)) $$ [Hc1 HO Ha1]
  · isplitr; · iapply (inv_at m ρ K (c, .inr (0, s))); iexact HR
    isplitl [Hc1]; · iexact Hc1
    isplitl [HO]; · iexact HO
    isplitr; · iapply (mayWait_O c (s.val + 1) (by omega) _ (by rw [ixOf_dma]; exact Nat.zero_le _)); iexact Hlev
    iexact Ha1
  iintro ⟨HO, Hz1, Hsp⟩
  iapply (wp_wait_slot m ρ rpM spM 1 c s (credit_rp s) (K (c, .inr (1, s))) (O (s.val + 1) c)) $$ [Hc2 HO Ha2]
  · isplitr; · iapply (inv_at m ρ K (c, .inr (1, s))); iexact HR
    isplitl [Hc2]; · iexact Hc2
    isplitl [HO]; · iexact HO
    isplitr; · iapply (mayWait_O c (s.val + 1) (by omega) _ (by rw [ixOf_dma]; exact le_rfl)); iexact Hlev
    iexact Ha2
  iintro ⟨HO, Hz2, Hrp⟩
  simp only [pay]
  iapply (wp_load_slot rpM c s (pP m ρ s.val (prv c))) $$ Hrp; iintro Hrp
  rw [wp_ret]; imodintro
  unfold prodP prodM xRd wLo wHi
  iapply Hk
  isplitl [Hsp]; · iexact Hsp
  isplitl [Hrp]; · unfold slotAny; iexists _; iexact Hrp
  isplitl [Hz1]; · iexact Hz1
  isplitl [Hz2]; · iexact Hz2
  isplitl [Hc3 Hc4 Ha3 Ha4]
  · unfold tailRes
    isplitl [Hc3]; · iexact Hc3
    isplitl [Hc4]; · iexact Hc4
    isplitl [Ha3]; · iexact Ha3
    iexact Ha4
  isplitl [HO]; · iexact HO
  isplitl [Hx]; · iexact Hx
  iexact Hw

set_option maxHeartbeats 800000 in
/-- The second half: what the right neighbour sent arrives. -/
theorem wp_hopTail (c : Dev nD) (s : Fin 31) {Q : Vec F S1x128x1024 .bf16 → sProp 𝕄} :
    iprop(records m ρ K ∗ levAts L lv ∗ tailRes c s ∗ owesAny c (O (s.val + 1) c))
      ⊢ iprop(((slotAny smM c s ∗ slotAny rmM c s ∗ semVal (smCell c s) 0 ∗ semVal (rmCell c s) 0 ∗ owesAny c (O (s.val + 1) c))
            -∗ Q (shapeCast S1x128x1024 (pM m ρ s.val (nxt c)) cast_in))
          -∗ wp frame (wpE (defs₀ (F := F)) 𝒱₀ (c : Thread nD τ) none) Set.univ (hopTail s) Q) := by
  unfold hopTail
  simp only [Prog.lift, Prog.bind_op, Prog.bind_ret, Prog.pure_eq_ret]
  unfold tailRes
  iintro ⟨#HR, #Hlev, ⟨Hc3, Hc4, Ha3, Ha4⟩, HO⟩ Hk
  iapply (wp_wait_slot m ρ smM rmM 2 c s (credit_sm s) (K (c, .inr (2, s))) (O (s.val + 1) c)) $$ [Hc3 HO Ha3]
  · isplitr; · iapply (inv_at m ρ K (c, .inr (2, s))); iexact HR
    isplitl [Hc3]; · iexact Hc3
    isplitl [HO]; · iexact HO
    isplitr; · iapply (mayWait_O c (s.val + 1) (by omega) _ (by rw [ixOf_dma]; exact Nat.zero_le _)); iexact Hlev
    iexact Ha3
  iintro ⟨HO, Hz3, Hsm⟩
  iapply (wp_wait_slot m ρ rmM smM 3 c s (credit_rm s) (K (c, .inr (3, s))) (O (s.val + 1) c)) $$ [Hc4 HO Ha4]
  · isplitr; · iapply (inv_at m ρ K (c, .inr (3, s))); iexact HR
    isplitl [Hc4]; · iexact Hc4
    isplitl [HO]; · iexact HO
    isplitr; · iapply (mayWait_O c (s.val + 1) (by omega) _ (by rw [ixOf_dma]; exact le_rfl)); iexact Hlev
    iexact Ha4
  iintro ⟨HO, Hz4, Hrm⟩
  simp only [pay]
  iapply (wp_load_slot rmM c s (pM m ρ s.val (nxt c))) $$ Hrm; iintro Hrm
  rw [wp_ret]; imodintro
  iapply Hk
  isplitl [Hsm]; · iexact Hsm
  isplitl [Hrm]; · unfold slotAny; iexists _; iexact Hrm
  isplitl [Hz3]; · iexact Hz3
  isplitl [Hz4]; · iexact Hz4
  iexact HO

end Cert.RingProof

end
-- ==== Proof.Body.lean ====
/-
# The kernel function, run once on a symbolic device

The prologue, one hop, the last hop and the epilogue, each from what it uses to what it leaves; then the chain of hops by
induction on how many are left (`wp_hops`), and the whole function (`wp_body`).
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_succ bigSep_finUpTo_succ bigSep_finUpTo_zero finFrom_zero finFrom_self
  finUpTo_self sum_finFrom_self)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The contents of the next hop -/

theorem ofNat_val (s : Fin 31) : Fin.ofNat 31 s.val = s := Fin.ext (Nat.mod_eq_of_lt s.isLt)

theorem pP_next (c : Dev nD) (s t : Fin 31) (ht : t.val = s.val + 1) :
    pP m ρ t.val c = shapeCast S128x1024 (k0_pay6 (prodP m ρ c s) (shapeCast S1x128x1024 (pP m ρ s.val (prv c)) cast_in)) cast_out := by
  rw [ht, pP, ofNat_val]
theorem pM_next (c : Dev nD) (s t : Fin 31) (ht : t.val = s.val + 1) :
    pM m ρ t.val c = shapeCast S128x1024 (k0_pay7 (prodM m ρ c s) (shapeCast S1x128x1024 (pM m ρ s.val (nxt c)) cast_in)) cast_out := by
  rw [ht, pM, ofNat_val]

theorem hz2 : (![0, 0] : Fin 2 → Nat) = fun _ => 0 := funext fun a => by fin_cases a <;> rfl

/-! ## Where a device stands before hop `s` -/

/-- A hop behind: its four slots are the device's again, its four cells are closed. -/
def hopDone (c : Dev nD) (s : Fin 31) : sProp 𝕄 :=
  iprop(slotAny spM c s ∗ slotAny rpM c s ∗ slotAny smM c s ∗ slotAny rmM c s
    ∗ semVal (spCell c s) 0 ∗ semVal (rpCell c s) 0 ∗ semVal (smCell c s) 0 ∗ semVal (rmCell c s) 0)
/-- The send slots of a hop ahead. -/
def spare (c : Dev nD) (s : Fin 31) : sProp 𝕄 := iprop(slotAny spM c s ∗ slotAny smM c s)

/-- Before hop `s`: what the hops from `s` on use, the send slots of the later ones, the hops behind, the two slots to be sent with
    their contents, the debt, the operands. -/
def ahead (c : Dev nD) (s : Fin 31) : sProp 𝕄 :=
  iprop(bigSep (finFrom 31 s.val) (hopRes c) ∗ bigSep (finFrom 31 (s.val + 1)) (spare c) ∗ bigSep (finUpTo 31 s.val) (hopDone c)
    ∗ slotIs spM c s (pP m ρ s.val c) ∗ slotIs smM c s (pM m ρ s.val c) ∗ owesAny c (O s.val c) ∗ xPts m ρ c ∗ wPts m ρ c)

set_option maxHeartbeats 800000 in
/-- One hop. -/
theorem wp_hop (c : Dev nD) (s t : Fin 31) (ht : t.val = s.val + 1) {Q : PUnit → sProp 𝕄} :
    iprop(records m ρ K ∗ levAts L lv ∗ ahead m ρ c s)
      ⊢ iprop((ahead m ρ c t -∗ Q ⟨⟩) -∗ wp frame (wpE (defs₀ (F := F)) 𝒱₀ (c : Thread nD τ) none) Set.univ (hop c s t) Q) := by
  have h1 : (bigSep (finFrom 31 s.val) (hopRes c) : sProp 𝕄) = iprop(hopRes c s ∗ bigSep (finFrom 31 t.val) (hopRes c)) := by
    rw [bigSep_finFrom_succ s.isLt, ht]
  have h2 : (bigSep (finFrom 31 (s.val + 1)) (spare c) : sProp 𝕄) = iprop(spare c t ∗ bigSep (finFrom 31 (t.val + 1)) (spare c)) := by
    rw [← ht, bigSep_finFrom_succ t.isLt]
  have h3 : (bigSep (finUpTo 31 t.val) (hopDone c) : sProp 𝕄) = iprop(hopDone c s ∗ bigSep (finUpTo 31 s.val) (hopDone c)) := by
    rw [ht, bigSep_finUpTo_succ s.isLt]
  unfold hop ahead
  rw [h1, h2, h3, pP_next m ρ c s t ht, pM_next m ρ c s t ht, show O t.val c = O (s.val + 1) c by rw [ht]]
  simp only [wp_bind]
  iintro ⟨#HR, #Hlev, ⟨Hres, Hress⟩, ⟨Hspare, Hspares⟩, Hdone, Hsp, Hsm, HO, Hx, Hw⟩ Hk
  unfold spare
  icases Hspare with ⟨Hsp', Hsm'⟩
  iapply (wp_hopHead m ρ K c s) $$ [Hres Hsp Hsm HO Hx Hw]
  · isplitr; · iexact HR
    isplitr; · iexact Hlev
    isplitl [Hres]; · iexact Hres
    isplitl [Hsp]; · iexact Hsp
    isplitl [Hsm]; · iexact Hsm
    isplitl [HO]; · iexact HO
    isplitl [Hx]; · iexact Hx
    iexact Hw
  iintro ⟨Hsp, Hrp, Hz1, Hz2, Htail, HO, Hx, Hw⟩
  simp only [Prog.lift]
  unfold slotAny
  icases Hsp' with ⟨%X, Hsp'⟩
  iapply (wp_load_slot spM c t X) $$ Hsp'; iintro Hsp'
  rw [wp_ret]; imodintro
  iapply (wp_store_slot spM c t) $$ [Hsp']
  · unfold slotAny; iexists X; iexact Hsp'
  iintro Hsp'
  rw [wp_ret]; imodintro
  iapply (wp_hopTail m ρ K c s) $$ [Htail HO]
  · isplitr; · iexact HR
    isplitr; · iexact Hlev
    isplitl [Htail]; · iexact Htail
    iexact HO
  iintro ⟨Hsm, Hrm, Hz3, Hz4, HO⟩
  icases Hsm' with ⟨%Y, Hsm'⟩
  iapply (wp_load_slot smM c t Y) $$ Hsm'; iintro Hsm'
  rw [wp_ret]; imodintro
  iapply (wp_store_slot smM c t) $$ [Hsm']
  · unfold slotAny; iexists Y; iexact Hsm'
  iintro Hsm'
  rw [wp_ret]; imodintro
  iapply Hk
  isplitl [Hress]; · iexact Hress
  isplitl [Hspares]; · iexact Hspares
  isplitl [Hdone Hsp Hrp Hsm Hrm Hz1 Hz2 Hz3 Hz4]
  · isplitl [Hsp Hrp Hsm Hrm Hz1 Hz2 Hz3 Hz4]
    · unfold hopDone slotAny
      isplitl [Hsp]; · iexact Hsp
      isplitl [Hrp]; · iexact Hrp
      isplitl [Hsm]; · iexact Hsm
      isplitl [Hrm]; · iexact Hrm
      isplitl [Hz1]; · iexact Hz1
      isplitl [Hz2]; · iexact Hz2
      isplitl [Hz3]; · iexact Hz3
      iexact Hz4
    · iexact Hdone
  isplitl [Hsp']; · iexact Hsp'
  isplitl [Hsm']; · iexact Hsm'
  isplitl [HO]; · iexact HO
  isplitl [Hx]; · iexact Hx
  iexact Hw

/-! ## The last hop -/

/-- The two stores of the last hop cover the result: it holds the two halves side by side. -/
theorem out_write (c : Dev nD) (g : (cc0_stg2_0 : Ref sig .tc).ty.Contents (Elt F)) :
    (oM.access rHi).write (Elt F) ((oM.access rLo).write (Elt F) g (outLo m ρ c) Finset.univ) (outHi m ρ c) Finset.univ = outAt m ρ c := by
  funext i
  have h1 : (i 1).val < 2048 := (i 1).isLt
  unfold outAt
  by_cases h : (i 1).val < 1024
  · rw [dif_pos h, View.write_of_not_mem (v := oM.access rHi)]
    · refine Eq.trans (congrArg _ ?_) (View.write_emb_of_mem (v := oM.access rLo) g (outLo m ρ c) (Finset.mem_univ _))
      exact funext fun a => Fin.ext (by
        fin_cases a
        · exact (Nat.zero_add _).symm.trans (congrArg (0 + ·) (Nat.one_mul _).symm)
        · exact (Nat.zero_add _).symm.trans (congrArg (0 + ·) (Nat.one_mul _).symm))
    · intro hi
      obtain ⟨j, -, hj⟩ := Finset.mem_map.mp hi
      have := congrArg (fun z : S128x2048.Idx => (z 1).val) hj
      have h2 : 1024 + 1 * (j 1).val = (i 1).val := this
      omega
  · rw [dif_neg h]
    refine Eq.trans (congrArg _ ?_) (View.write_emb_of_mem (v := oM.access rHi) ((oM.access rLo).write (Elt F) g (outLo m ρ c) Finset.univ)
      (outHi m ρ c) (Finset.mem_univ _))
    exact funext fun a => Fin.ext (by
      fin_cases a
      · exact (Nat.zero_add _).symm.trans (congrArg (0 + ·) (Nat.one_mul _).symm)
      · show (i 1).val = 1024 + 1 * ((i 1).val - 1024)
        omega)

/-- The result's staging buffer on device `c` holding `g`. -/
def oPts (c : Dev nD) (g : (cc0_stg2_0 : Ref sig .tc).ty.Contents (Elt F)) : sProp 𝕄 := iprop(((c : Thread nD τ).loc cc0_stg2_0) ↦{fullShare} g)

set_option maxHeartbeats 800000 in
/-- The last hop: the result is stored. -/
theorem wp_lastHop (c : Dev nD) (g : (cc0_stg2_0 : Ref sig .tc).ty.Contents (Elt F)) {Q : PUnit → sProp 𝕄} :
    iprop(records m ρ K ∗ levAts L lv ∗ ahead m ρ c 30 ∗ oPts c g)
      ⊢ iprop(((bigSep Finset.univ (hopDone c) ∗ owesAny c (O 31 c) ∗ xPts m ρ c ∗ wPts m ρ c ∗ oPts c (outAt m ρ c)) -∗ Q ⟨⟩)
          -∗ wp frame (wpE (defs₀ (F := F)) 𝒱₀ (c : Thread nD τ) none) Set.univ (lastHop c) Q) := by
  unfold lastHop ahead
  rw [show ((30 : Fin 31).val) = 30 from rfl, bigSep_finFrom_succ (show 30 < 31 by omega), ← finUpTo_self (n := 31), bigSep_finUpTo_succ (show 30 < 31 by omega),
    show (⟨30, by omega⟩ : Fin 31) = 30 from rfl, ← out_write m ρ c g]
  simp only [wp_bind]
  iintro ⟨#HR, #Hlev, ⟨⟨Hres, -⟩, -, Hdone, Hsp, Hsm, HO, Hx, Hw⟩, Hout⟩ Hk
  iapply (wp_hopHead m ρ K c 30) $$ [Hres Hsp Hsm HO Hx Hw]
  · isplitr; · iexact HR
    isplitr; · iexact Hlev
    isplitl [Hres]; · iexact Hres
    isplitl [Hsp]; · iexact Hsp
    isplitl [Hsm]; · iexact Hsm
    isplitl [HO]; · iexact HO
    isplitl [Hx]; · iexact Hx
    iexact Hw
  iintro ⟨Hsp, Hrp, Hz1, Hz2, Htail, HO, Hx, Hw⟩
  iapply (wp_hopTail m ρ K c 30) $$ [Htail HO]
  · isplitr; · iexact HR
    isplitr; · iexact Hlev
    isplitl [Htail]; · iexact Htail
    iexact HO
  iintro ⟨Hsm, Hrm, Hz3, Hz4, HO⟩
  simp only [Prog.lift]
  unfold oPts
  iapply (wp_load 𝒱₀ (c : Thread nD τ) none Set.univ (m := oM) (Finset.subset_univ _)) $$ Hout; iintro Hout
  rw [wp_ret]; imodintro
  iapply (wp_store 𝒱₀ (c : Thread nD τ) none Set.univ (m := oM) (r := rLo) (Mk := Finset.univ) (Finset.subset_univ _)) $$ Hout; iintro Hout
  rw [wp_ret]; imodintro
  iapply (wp_load 𝒱₀ (c : Thread nD τ) none Set.univ (m := oM) (Finset.subset_univ _)) $$ Hout; iintro Hout
  rw [wp_ret]; imodintro
  iapply (wp_store 𝒱₀ (c : Thread nD τ) none Set.univ (m := oM) (r := rHi) (Mk := Finset.univ) (Finset.subset_univ _)) $$ Hout; iintro Hout
  rw [wp_ret]; imodintro
  iapply Hk
  isplitl [Hdone Hsp Hrp Hsm Hrm Hz1 Hz2 Hz3 Hz4]
  · isplitl [Hsp Hrp Hsm Hrm Hz1 Hz2 Hz3 Hz4]
    · unfold hopDone
      isplitl [Hsp]; · iexact Hsp
      isplitl [Hrp]; · iexact Hrp
      isplitl [Hsm]; · iexact Hsm
      isplitl [Hrm]; · iexact Hrm
      isplitl [Hz1]; · iexact Hz1
      isplitl [Hz2]; · iexact Hz2
      isplitl [Hz3]; · iexact Hz3
      iexact Hz4
    · iexact Hdone
  isplitl [HO]; · iexact HO
  isplitl [Hx]; · iexact Hx
  isplitl [Hw]; · iexact Hw
  iexact Hout

/-! ## The two handshakes -/

/-- What device `c` uses at a barrier: its neighbours' duties it pays, its position at its own cell, and that cell's credit. -/
def barToks (c : Dev nD) (b : Bool) : sProp 𝕄 :=
  iprop(dutyTok ER (kcell (prv c, .inl b)) 0 true ∗ dutyTok ER (kcell (nxt c, .inl b)) 0 false ∗ atPos ER (kcell (c, .inl b)) 0 ∅ 0
    ∗ cred (tallyAt (kcell (c, .inl b)) () 2))

theorem O_last (c : Dev nD) : O 31 c = (0 + tallyAt (bar2Cell (nxt c)) () 1) + tallyAt (bar2Cell (prv c)) () 1 := by
  unfold O; rw [sum_finFrom_self, add_zero, zero_add]

/-- The handshake on barrier `b` (the runtime's, or the kernel's own), at any debt below it: what is handed to the neighbours for
    what they hand over; the barrier's cell is closed. -/
theorem wp_shake (b : Bool) (q : Sem sig) (hq : csem (.inl b) = .reg q) (c n₁ n₂ : Dev nD) (hn₁ : n₁ = prv c) (hn₂ : n₂ = nxt c) (O' : CellTallies nD τ sig Unit)
    (hO : (levAts L lv : sProp 𝕄) ⊢ MayWait (c : Thread nD τ) (.reg q) () O') {Q : PUnit → sProp 𝕄} :
    iprop(records m ρ K ∗ levAts L lv ∗ barToks c b ∗ pay m ρ (prv c) (.inl b) true ∗ pay m ρ (nxt c) (.inl b) false
        ∗ owesAny c (O' + tallyAt (kcell (nxt c, .inl b)) () 1 + tallyAt (kcell (prv c, .inl b)) () 1))
      ⊢ iprop(((semVal (kcell (c, .inl b)) 0 ∗ pay m ρ c (.inl b) false ∗ pay m ρ c (.inl b) true ∗ owesAny c O') -∗ Q ⟨⟩)
          -∗ wp frame (wpE (defs₀ (F := F)) 𝒱₀ (c : Thread nD τ) none) Set.univ (do
              semSignalWord n₁ q 1#32
              semSignalWord n₂ q 1#32
              semWaitWord q 2#32) Q) := by
  subst hn₁ hn₂
  simp only [semSignalWord, semWaitWord, Prog.lift, Prog.bind_op, Prog.bind_ret, Prog.pure_eq_ret]
  unfold barToks owesAny
  iintro ⟨#HR, #Hlev, ⟨Ht1, Ht2, Hat, Hc⟩, HpL, HpR, ⟨%W, HO⟩⟩ Hk
  have hk (d : Dev nD) : kcell (d, .inl b) = ((d : Thread nD τ), .reg q) := congrArg (Prod.mk _) hq
  rw [hk, hk, hk]
  iapply (Rounds.wp_signal 𝒱₀ ER (ringRd m ρ) (c : Thread nD τ) none (dst := (prv c : Thread nD τ)) (κ := K (prv c, .inl b))
      (d := true) (by rw [← hk, duties_k]; exact Finset.mem_univ _) (by rw [← hk, amount_k]; rfl) ()
      (O' + tallyAt ((nxt c : Thread nD τ), .reg q) () 1) rfl)
    $$ [HO Ht1 HpL]
  · isplitr; · rw [← hk]; iapply (inv_at m ρ K (prv c, .inl b)); iexact HR
    isplitl [HO]; · iexact HO
    isplitl [Ht1]; · iexact Ht1
    isplitl [HpL]; · rw [← hk, payload_k]; iexact HpL
    rw [← hk]; iapply (reached_at m ρ K (prv c, .inl b)); iexact HR
  iintro HO
  iapply (Rounds.wp_signal 𝒱₀ ER (ringRd m ρ) (c : Thread nD τ) none (dst := (nxt c : Thread nD τ)) (κ := K (nxt c, .inl b))
      (d := false) (by rw [← hk, duties_k]; exact Finset.mem_univ _) (by rw [← hk, amount_k]; rfl) () O' rfl)
    $$ [HO Ht2 HpR]
  · isplitr; · rw [← hk]; iapply (inv_at m ρ K (nxt c, .inl b)); iexact HR
    isplitl [HO]; · iexact HO
    isplitl [Ht2]; · iexact Ht2
    isplitl [HpR]; · rw [← hk, payload_k]; iexact HpR
    rw [← hk]; iapply (reached_at m ρ K (nxt c, .inl b)); iexact HR
  iintro HO
  iapply (Rounds.wp_wait_rest_token 𝒱₀ ER (ringRd m ρ) (c : Thread nD τ) none (κ := K (c, .inl b))
      (wpE_semWait_eq 𝒱₀ (c : Thread nD τ) none Set.univ) (Set.mem_univ _) () (O := O') (W := W) (R := 0) (m := 0) (T := ∅)
      (by rw [← hk, expect_bar]; decide)) $$ [Hc HO Hat]
  · isplitr; · rw [← hk]; iapply (inv_at m ρ K (c, .inl b)); iexact HR
    isplitl [Hc]; · iexact Hc
    isplitl [HO]; · iexact HO
    isplitr; · iapply hO; iexact Hlev
    iexact Hat
  iintro ⟨HO, Hat, -, Hpay⟩
  rw [← hk]
  ihave Hp := (Entails.of_eq (rest_bar m ρ c b)) $$ Hpay
  icases Hp with ⟨Hp1, Hp2⟩
  imod (Rounds.cell_close ER (ringRd m ρ) (Set.mem_univ (K (c, .inl b))) (fun h => h) (R := 0 + 1) (duties_later m ρ (kcell (c, .inl b)))) $$ [Hat] with Hz
  · isplitr; · iapply (inv_at m ρ K (c, .inl b)); iexact HR
    iexact Hat
  rw [wp_ret]; imodintro
  iapply Hk
  isplitl [Hz]; · iexact Hz
  isplitl [Hp1]; · iexact Hp1
  isplitl [Hp2]; · iexact Hp2
  iexists _; iexact HO

end Cert.RingProof

end
-- ==== Proof.Whole.lean ====
/-
# The kernel function from its start to its end

The prologue, the chain of hops by induction on how many are left (`wp_hops`), and the whole function (`wp_body`).
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_succ bigSep_finUpTo_zero finFrom_zero)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- What device `c` holds after the kernel function. -/
def finished (c : Dev nD) : sProp 𝕄 :=
  iprop(bigSep Finset.univ (hopDone c) ∗ semVal (bar2Cell c) 0 ∗ owesAny c 0 ∗ xPts m ρ c ∗ wPts m ρ c ∗ oPts c (outAt m ρ c))

/-- The second handshake: nothing is handed over. -/
theorem wp_epilogue (c : Dev nD) {Q : PUnit → sProp 𝕄} :
    iprop(records m ρ K ∗ levAts L lv ∗ barToks c true ∗ owesAny c (O 31 c))
      ⊢ iprop(((semVal (bar2Cell c) 0 ∗ owesAny c 0) -∗ Q ⟨⟩)
          -∗ wp frame (wpE (defs₀ (F := F)) 𝒱₀ (c : Thread nD τ) none) Set.univ (epilogue c) Q) := by
  unfold epilogue
  rw [O_last]
  iintro ⟨#HR, #Hlev, Hb, HO⟩ Hk
  iapply (wp_shake m ρ K true bar2S rfl c _ _ (dev65_eq c) (dev66_eq c) 0 (by rw [MayWait_zero]; iintro -; iempintro)) $$ [Hb HO]
  · isplitr; · iexact HR
    isplitr; · iexact Hlev
    isplitl [Hb]; · iexact Hb
    simp only [pay]
    isplitr; · iempintro
    isplitr; · iempintro
    iexact HO
  iintro ⟨Hz, -, -, HO⟩
  iapply Hk
  isplitl [Hz]; · iexact Hz
  iexact HO

/-- The last `n` hops before the last one, the last one and the second handshake. -/
theorem wp_hops (c : Dev nD) (g : (cc0_stg2_0 : Ref sig .tc).ty.Contents (Elt F)) {Q : PUnit → sProp 𝕄} :
    ∀ (n : ℕ) (s : Fin 31), s.val + n = 30 →
      iprop(records m ρ K ∗ levAts L lv ∗ ahead m ρ c s ∗ oPts c g ∗ barToks c true)
        ⊢ iprop((finished m ρ c -∗ Q ⟨⟩) -∗ wp frame (wpE (defs₀ (F := F)) 𝒱₀ (c : Thread nD τ) none) Set.univ (hops c n) Q) := by
  intro n
  induction n with
  | zero =>
    intro s hs
    have hs' : s = 30 := Fin.ext hs
    subst hs'
    unfold hops
    simp only [wp_bind]
    iintro ⟨#HR, #Hlev, Ha, Ho, Hb⟩ Hk
    iapply (wp_lastHop m ρ K c g) $$ [Ha Ho]
    · isplitr; · iexact HR
      isplitr; · iexact Hlev
      isplitl [Ha]; · iexact Ha
      iexact Ho
    iintro ⟨Hd, HO, Hx, Hw, Ho⟩
    iapply (wp_epilogue m ρ K c) $$ [Hb HO]
    · isplitr; · iexact HR
      isplitr; · iexact Hlev
      isplitl [Hb]; · iexact Hb
      iexact HO
    iintro ⟨Hz, HO⟩
    iapply Hk
    unfold finished
    isplitl [Hd]; · iexact Hd
    isplitl [Hz]; · iexact Hz
    isplitl [HO]; · iexact HO
    isplitl [Hx]; · iexact Hx
    isplitl [Hw]; · iexact Hw
    iexact Ho
  | succ n ih =>
    intro s hs
    have h1 : Fin.ofNat 31 (29 - n) = s := Fin.ext (by show (29 - n) % 31 = s.val; omega)
    have h2 : (Fin.ofNat 31 (30 - n)).val = s.val + 1 := by show (30 - n) % 31 = s.val + 1; omega
    rw [show hops (F := F) c (n + 1) = (do hop c (Fin.ofNat 31 (29 - n)) (Fin.ofNat 31 (30 - n)); hops c n) from rfl, wp_bind, h1]
    iintro ⟨#HR, #Hlev, Ha, Ho, Hb⟩ Hk
    iapply (wp_hop m ρ K c s (Fin.ofNat 31 (30 - n)) h2) $$ [Ha]
    · isplitr; · iexact HR
      isplitr; · iexact Hlev
      iexact Ha
    iintro Ha
    iapply (ih (Fin.ofNat 31 (30 - n)) (by omega)) $$ [Ha Ho Hb]
    · isplitr; · iexact HR
      isplitr; · iexact Hlev
      isplitl [Ha]; · iexact Ha
      isplitl [Ho]; · iexact Ho
      iexact Hb
    iexact Hk

/-- What device `c` holds before the kernel function, besides its operands: the tokens of the two barriers and of the hops, and every
    slot. -/
def slotsAny (c : Dev nD) : sProp 𝕄 :=
  iprop(bigSep Finset.univ (spare c) ∗ bigSep Finset.univ (fun s => slotAny rpM c s) ∗ bigSep Finset.univ (fun s => slotAny rmM c s))

def wsPts (c : Dev nD) : sProp 𝕄 := iprop(((c : Thread nD τ).loc cc0_stg1_0) ↦{fullShare} wstg m ρ c)

theorem wcp_write (f : (cc0_scratch0 : Ref sig .tc).ty.Contents (Elt F)) (v : Vec F S128x2048 .bf16) :
    ((wbM : Memref sig .tc .vmem S128x2048 .bf16).access rW : View sig .tc _ _ _).write (Elt F) f v Finset.univ = v :=
  Memref.write_access_unit_zero_univ (Elt F) cc0_scratch0 hz2 _ f v
theorem w_read (f : (cc0_stg1_0 : Ref sig .tc).ty.Contents (Elt F)) : (wM : Memref sig .tc .vmem S128x2048 .bf16).view.readAt (Elt F) rW.toLoadRect f = f :=
  Memref.readAt_unit_zero (Elt F) cc0_stg1_0 hz2 _ f

set_option maxHeartbeats 1600000 in
/-- The prologue: the neighbours' receive slots are this device's to send into, and the first partial products are in slot 0. -/
theorem wp_prologue (c : Dev nD) (w0 : (cc0_scratch0 : Ref sig .tc).ty.Contents (Elt F)) {Q : PUnit → sProp 𝕄} :
    iprop(records m ρ K ∗ levAts L lv ∗ barToks c false ∗ bigSep Finset.univ (hopToks c) ∗ slotsAny c ∗ owesAny c (O₀ c) ∗ xPts m ρ c ∗ wsPts m ρ c
        ∗ (((c : Thread nD τ).loc cc0_scratch0) ↦{fullShare} w0))
      ⊢ iprop(((ahead m ρ c 0 ∗ wsPts m ρ c ∗ semVal (barCell c) 0) -∗ Q ⟨⟩)
          -∗ wp frame (wpE (defs₀ (F := F)) 𝒱₀ (c : Thread nD τ) none) Set.univ (prologue c) Q) := by
  have h2 : (bigSep Finset.univ (spare c) : sProp 𝕄) = iprop(spare c 0 ∗ bigSep (finFrom 31 (0 + 1)) (spare c)) := by
    rw [← finFrom_zero (n := 31), bigSep_finFrom_succ (show 0 < 31 by omega)]; rfl
  have h3 : (bigSep Finset.univ (hopRes c) : sProp 𝕄) = iprop(bigSep Finset.univ (hopToks c) ∗ bigSep Finset.univ (fun s => slotAny rpM (nxt c) s)
      ∗ bigSep Finset.univ (fun s => slotAny rmM (prv c) s)) := by
    rw [← bigSep_sep', ← bigSep_sep']; rfl
  unfold prologue ahead slotsAny wsPts xPts wPts wcp
  rw [show ((0 : Fin 31).val) = 0 from rfl, finFrom_zero, bigSep_finUpTo_zero, h2, h3]
  simp only [wp_bind]
  unfold spare
  iintro ⟨#HR, #Hlev, Hb, Htoks, ⟨⟨⟨Hsp, Hsm⟩, Hspares⟩, Hrp, Hrm⟩, HO, Hx, Hws, Hw⟩ Hk
  simp only [Prog.lift]
  iapply (wp_load 𝒱₀ (c : Thread nD τ) none Set.univ (m := wM) (Finset.subset_univ _)) $$ Hws; iintro Hws
  rw [wp_ret]; imodintro
  iapply (wp_load 𝒱₀ (c : Thread nD τ) none Set.univ (m := wbM) (Finset.subset_univ _)) $$ Hw; iintro Hw
  rw [wp_ret]; imodintro
  rw [w_read]
  iapply (wp_store 𝒱₀ (c : Thread nD τ) none Set.univ (m := wbM) (r := rW) (Mk := Finset.univ) (Finset.subset_univ _)) $$ Hw; iintro Hw
  rw [wp_ret]; imodintro
  rw [wcp_write]
  have hsh := fun Q : PUnit → sProp 𝕄 => wp_shake (F := F) m ρ K false barS rfl c _ _ (dev1_eq c) (dev2_eq c) (O 0 c)
    (mayWait_O c 0 (by omega) _ (by rw [show SemLoc.reg barS = csem (.inl false) from rfl, ixOf_csem]; exact le_rfl)) (Q := Q)
  simp only [wp_bind] at hsh
  iapply (hsh _) $$ [Hb HO Hrp Hrm]
  · isplitr; · iexact HR
    isplitr; · iexact Hlev
    isplitl [Hb]; · iexact Hb
    simp only [pay, nxt_prv, prv_nxt]
    isplitl [Hrp]; · iexact Hrp
    isplitl [Hrm]; · iexact Hrm
    unfold O₀ O₁
    iexact HO
  simp only [pay]
  iintro ⟨Hz, Hrm, Hrp, HO⟩
  iapply (wp_load 𝒱₀ (c : Thread nD τ) none Set.univ (m := xM) (Finset.subset_univ _)) $$ Hx; iintro Hx
  rw [wp_ret]; imodintro
  iapply (wp_load 𝒱₀ (c : Thread nD τ) none Set.univ (m := wbM) (Finset.subset_univ _)) $$ Hw; iintro Hw
  rw [wp_ret]; imodintro
  unfold slotAny
  icases Hsp with ⟨%X, Hsp⟩
  iapply (wp_load_slot spM c 0 X) $$ Hsp; iintro Hsp
  rw [wp_ret]; imodintro
  iapply (wp_store_slot spM c 0) $$ [Hsp]
  · unfold slotAny; iexists X; iexact Hsp
  iintro Hsp
  rw [wp_ret]; imodintro
  iapply (wp_load 𝒱₀ (c : Thread nD τ) none Set.univ (m := xM) (Finset.subset_univ _)) $$ Hx; iintro Hx
  rw [wp_ret]; imodintro
  iapply (wp_load 𝒱₀ (c : Thread nD τ) none Set.univ (m := wbM) (Finset.subset_univ _)) $$ Hw; iintro Hw
  rw [wp_ret]; imodintro
  icases Hsm with ⟨%Y, Hsm⟩
  iapply (wp_load_slot smM c 0 Y) $$ Hsm; iintro Hsm
  rw [wp_ret]; imodintro
  iapply (wp_store_slot smM c 0) $$ [Hsm]
  · unfold slotAny; iexists Y; iexact Hsm
  iintro Hsm
  rw [wp_ret]; imodintro
  iapply Hk
  isplitr [Hws Hz]
  · isplitl [Htoks Hrp Hrm]
    · isplitl [Htoks]; · iexact Htoks
      isplitl [Hrp]; · iexact Hrp
      iexact Hrm
    isplitl [Hspares]; · iexact Hspares
    isplitr; · iempintro
    rw [pP, pM]; unfold wLo wHi xRd wcp
    isplitl [Hsp]; · iexact Hsp
    isplitl [Hsm]; · iexact Hsm
    isplitl [HO]; · iexact HO
    isplitl [Hx]; · iexact Hx
    iexact Hw
  isplitl [Hws]; · iexact Hws
  iexact Hz

/-- The whole kernel function. -/
theorem wp_body (c : Dev nD) (g : (cc0_stg2_0 : Ref sig .tc).ty.Contents (Elt F)) (w0 : (cc0_scratch0 : Ref sig .tc).ty.Contents (Elt F)) {Q : PUnit → sProp 𝕄} :
    iprop(records m ρ K ∗ levAts L lv ∗ barToks c false ∗ barToks c true ∗ bigSep Finset.univ (hopToks c) ∗ slotsAny c ∗ owesAny c (O₀ c) ∗ xPts m ρ c ∗ wsPts m ρ c
        ∗ (((c : Thread nD τ).loc cc0_scratch0) ↦{fullShare} w0) ∗ oPts c g)
      ⊢ iprop(((finished m ρ c ∗ wsPts m ρ c ∗ semVal (barCell c) 0) -∗ Q ⟨⟩)
          -∗ wp frame (wpE (defs₀ (F := F)) 𝒱₀ (c : Thread nD τ) none) Set.univ (body (F := F)) Q) := by
  unfold body
  simp only [Prog.lift, Prog.bind_op, Prog.bind_ret, wp_deviceId, wp_bind]
  iintro ⟨#HR, #Hlev, Hb1, Hb2, Htoks, Hs, HO, Hx, Hws, Hw, Ho⟩ Hk
  iapply (wp_prologue m ρ K c w0) $$ [Hb1 Htoks Hs HO Hx Hws Hw]
  · isplitr; · iexact HR
    isplitr; · iexact Hlev
    isplitl [Hb1]; · iexact Hb1
    isplitl [Htoks]; · iexact Htoks
    isplitl [Hs]; · iexact Hs
    isplitl [HO]; · iexact HO
    isplitl [Hx]; · iexact Hx
    isplitl [Hws]; · iexact Hws
    iexact Hw
  iintro ⟨Ha, Hws, Hz⟩
  iapply (wp_hops m ρ K c g 30 0 rfl) $$ [Ha Ho Hb2]
  · isplitr; · iexact HR
    isplitr; · iexact Hlev
    isplitl [Ha]; · iexact Ha
    isplitl [Ho]; · iexact Ho
    iexact Hb2
  iintro Hf
  iapply Hk
  isplitl [Hf]; · iexact Hf
  isplitl [Hws]; · iexact Hws
  iexact Hz

end Cert.RingProof

end
-- ==== Proof.Deal.lean ====
/-
# What is dealt at launch

The slots' buffers cut into slots and joined back; the tokens of every cell dealt to the devices that use them; the invariants
allocated for all devices under one update; and the credit each device is dealt for the cells it waits on.
-/
module

public import proofs.«01_k».proof.Proof.Whole
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists lead_disjoint lead_cover)
open Idealize.ShloMosaic.Pipeline (Dat Cfg Window BodyObligation cellOf)
open Idealize.ShloMosaic.SparseCore.ProtocolKit (finFrom_zero)

variable {F : FTy → Type} [FloatOps F]

local notation "𝕄" => MT nD τ sig Unit (Elt F) ℕ UU ℕ

variable (m : (ℓ : Loc nD τ sig) → Buf (Elt F) ℓ) (ρ : Dev nD → PrngReg)

/-! ## A buffer of slots -/

theorem rects_disjoint (s t : Fin 31) (h : s ≠ t) : Disjoint (rSlot s).set (rSlot t).set :=
  lead_disjoint (s := S31x128x1024) (0 : Fin 3) 1 (fun s : Fin 31 => ![s.val, 0, 0]) S1x128x1024.size slot_inb (fun s => (Nat.one_mul s.val).symm) rfl s t h
theorem rects_cover : Finset.univ.biUnion (fun s : Fin 31 => (rSlot s).set) = Finset.univ :=
  lead_cover (s := S31x128x1024) (0 : Fin 3) 1 (fun s : Fin 31 => ![s.val, 0, 0]) S1x128x1024.size slot_inb (fun s => (Nat.one_mul s.val).symm)
    (fun s a ha => by fin_cases a <;> first | exact absurd rfl ha | rfl) rfl (fun a ha => by fin_cases a <;> first | exact absurd rfl ha | rfl) rfl

theorem slots_disjoint (M : Memref sig .tc .vmem S31x128x1024 .bf16) (s t : Fin 31) (h : s ≠ t) :
    Disjoint (α := Finset M.view.ty.Idx) (slotM M s).view.set (slotM M t).view.set := by
  rw [slot_set, slot_set]
  exact (Finset.disjoint_map _).mpr (rects_disjoint s t h)
theorem slots_cover (M : Memref sig .tc .vmem S31x128x1024 .bf16) (hM : M.view.set = Finset.univ) :
    Finset.univ.biUnion (fun s : Fin 31 => (show Finset M.view.ty.Idx from (slotM M s).view.set)) = Finset.univ := by
  rw [← hM]
  ext i
  simp only [Finset.mem_biUnion, Finset.mem_univ, true_and]
  constructor
  · rintro ⟨s, hs⟩
    rw [hM]; exact Finset.mem_univ _
  · intro hi
    obtain ⟨j, -, rfl⟩ := Finset.mem_map.mp hi
    have hj : j ∈ Finset.univ.biUnion (fun s : Fin 31 => (rSlot s).set) := by rw [rects_cover]; exact Finset.mem_univ _
    obtain ⟨s, -, hs⟩ := Finset.mem_biUnion.mp hj
    exact ⟨s, by rw [slot_set]; exact Finset.mem_map.mpr ⟨j, hs, rfl⟩⟩

/-- A buffer of slots held whole is held slot by slot; -/
theorem slots_split (M : Memref sig .tc .vmem S31x128x1024 .bf16) (hM : M.view.set = Finset.univ) (c : Dev nD) (f : Buf (Elt F) (M.view.loc (c : Thread nD τ))) :
    (M.view.loc (c : Thread nD τ) ↦{fullShare} f : sProp 𝕄) ⊢ bigSep Finset.univ (fun s => slotAny M c s) := by
  rw [pointsTo_blocks (fun s : Fin 31 => (slotM M s).view.set) (slots_disjoint M) (slots_cover M hM) f]
  refine bigSep_mono fun s _ => ?_
  show (_ : sProp 𝕄) ⊢ slotAny M c s
  unfold slotAny slotIs owns
  iintro H
  iexists ((slotM M s).view.read (Elt F) f); iexists f
  isplitr; · (ipureintro; rfl)
  iexact H
/-- and its slots join to the buffer held whole. -/
theorem slots_join (m : (ℓ : Loc nD τ sig) → Buf (Elt F) ℓ) (M : Memref sig .tc .vmem S31x128x1024 .bf16) (hM : M.view.set = Finset.univ) (c : Dev nD) :
    bigSep Finset.univ (fun s => slotAny M c s) ⊢ (iprop(∃ g, M.view.loc (c : Thread nD τ) ↦{fullShare} g) : sProp 𝕄) := by
  refine (bigSep_mono fun s _ => ?_).trans
    (pointsTo_blocks_join_exists (fun s : Fin 31 => (slotM M s).view.set) (slots_disjoint M) (slots_cover M hM) (m (M.view.loc (c : Thread nD τ))))
  show slotAny M c s ⊢ iprop(∃ f, _)
  unfold slotAny slotIs owns
  iintro ⟨%X, %f, -, H⟩
  iexists f; iexact H

/-! ## Families over a device's cells -/

theorem bigSep_bool (Φ : Bool → sProp 𝕄) : bigSep Finset.univ Φ = iprop(Φ false ∗ Φ true) :=
  bigSep_univ_eq_bigSepL [false, true] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_hops (Φ : Fin 4 × Fin 31 → sProp 𝕄) :
    bigSep Finset.univ Φ = bigSep Finset.univ fun s : Fin 31 => iprop(Φ (0, s) ∗ Φ (1, s) ∗ Φ (2, s) ∗ Φ (3, s)) := by
  rw [bigSep_univ_prod, bigSep_four, ← bigSep_sep', ← bigSep_sep', ← bigSep_sep']
theorem bigSep_CK (Φ : CK → sProp 𝕄) :
    bigSep Finset.univ Φ = iprop((Φ (.inl false) ∗ Φ (.inl true))
      ∗ bigSep Finset.univ fun s : Fin 31 => iprop(Φ (.inr (0, s)) ∗ Φ (.inr (1, s)) ∗ Φ (.inr (2, s)) ∗ Φ (.inr (3, s)))) := by
  rw [bigSep_univ_sum, bigSep_bool, bigSep_hops]; rfl

/-! ## The tokens -/

/-- A device's duties as minted: which barrier and which of its two duties, or which DMA cell. -/
abbrev TK : Type := (Bool × Bool) ⊕ (Fin 4 × Fin 31)
abbrev tokOf (cj : Dev nD × TK) : GSem nD τ sig × ℕ × Bool := match cj.2 with
  | .inl (b, d) => (kcell (cj.1, .inl b), 0, d)
  | .inr x => (kcell (cj.1, .inr x), 0, false)
theorem tokOf_injective : Function.Injective (tokOf : Dev nD × TK → GSem nD τ sig × ℕ × Bool) := by
  rintro ⟨c, (⟨b, d⟩ | x)⟩ ⟨c', (⟨b', d'⟩ | x')⟩ h
  · have h1 := kcell_injective (congrArg Prod.fst h : kcell (c, .inl b) = kcell (c', .inl b'))
    have h2 : d = d' := congrArg (fun y : GSem nD τ sig × ℕ × Bool => y.2.2) h
    cases h1; subst h2; rfl
  · have h1 := kcell_injective (congrArg Prod.fst h : kcell (c, .inl b) = kcell (c', .inr x')); cases h1
  · have h1 := kcell_injective (congrArg Prod.fst h : kcell (c, .inr x) = kcell (c', .inl b')); cases h1
  · have h1 := kcell_injective (congrArg Prod.fst h : kcell (c, .inr x) = kcell (c', .inr x'))
    cases h1; rfl

def ringCells : Finset (GSem nD τ sig) := Finset.univ.map ⟨kcell, kcell_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, -/
def toks (c : Dev nD) : sProp 𝕄 :=
  iprop(((dutyTok ER (kcell (c, .inl false)) 0 false ∗ dutyTok ER (kcell (c, .inl false)) 0 true)
      ∗ (dutyTok ER (kcell (c, .inl true)) 0 false ∗ dutyTok ER (kcell (c, .inl true)) 0 true))
    ∗ bigSep Finset.univ fun s : Fin 31 => iprop(dutyTok ER (spCell c s) 0 false ∗ dutyTok ER (rpCell c s) 0 false
        ∗ dutyTok ER (smCell c s) 0 false ∗ dutyTok ER (rmCell c s) 0 false))
/-- and the tokens of the duties device `c` pays. -/
def payToks (c : Dev nD) : sProp 𝕄 :=
  iprop(((dutyTok ER (kcell (nxt c, .inl false)) 0 false ∗ dutyTok ER (kcell (prv c, .inl false)) 0 true)
      ∗ (dutyTok ER (kcell (nxt c, .inl true)) 0 false ∗ dutyTok ER (kcell (prv c, .inl true)) 0 true))
    ∗ bigSep Finset.univ fun s : Fin 31 => iprop(dutyTok ER (spCell c s) 0 false ∗ dutyTok ER (rpCell (nxt c) s) 0 false
        ∗ dutyTok ER (smCell c s) 0 false ∗ dutyTok ER (rmCell (prv c) s) 0 false))

/-- What the launch element deals device `c`, -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)
/-- what stays with it, -/
def linear (c : Dev nD) : sProp 𝕄 := iprop((bigSep Finset.univ fun k : CK => atPos ER (kcell (c, k)) 0 ∅ 0) ∗ payToks c)
/-- and what the global step makes of it. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod, bigSep_bool, bigSep_bool, bigSep_bool, bigSep_hops]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores and the invariants -/

/-- The kernel's own (scoped) semaphores: the second barrier and the DMA semaphores. -/
abbrev OK' : Type := Unit ⊕ (Fin 4 × Fin 31)
def ownK : OK' → CK := Sum.map (fun _ => true) id
abbrev osem (k : OK') : SemLoc sig := csem (ownK k)
theorem ownK_injective : Function.Injective ownK := Sum.map_injective.mpr ⟨fun _ _ _ => rfl, Function.injective_id⟩

theorem ownSemFacts : Pipeline.OwnSemFacts cfg0.spec osem where
  isScoped := by decide +kernel
  inj := csem_injective.comp ownK_injective
  disj := by
    intro k w s h
    have h1 : ixOf (osem k) = none := by
      rw [h]; clear h; revert w s; decide +kernel
    rw [ixOf_csem] at h1; cases h1

theorem ownSems0_eq (c : Dev nD) : (Pipeline.ownSems0 (Ix := Unit) (Name := ℕ) (U := UU) (Lvl := ℕ) (Val := Elt F) (τ := τ) osem c : sProp 𝕄)
    = iprop(semVal (bar2Cell c) 0 ∗ bigSep Finset.univ fun s : Fin 31 => iprop(semVal (spCell c s) 0 ∗ semVal (rpCell c s) 0 ∗ semVal (smCell c s) 0 ∗ semVal (rmCell c s) 0)) := by
  unfold Pipeline.ownSems0
  rw [bigSep_univ_sum, bigSep_hops, bigSep_univ_of_subsingleton (i := ())]; rfl
/-- The barrier semaphore of the runtime is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨H2, HD⟩, HB⟩
  isplitl [H2 HB]
  · isplitl [HB] <;> iassumption
  iexact HD

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: what a device's right neighbour pays one up, what its left neighbour pays one down. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (kcell (c, .inl false)) 0 false : sProp 𝕄)),
    bigSep_univ_equiv ring.symm (fun c : Dev nD => (dutyTok ER (kcell (c, .inl false)) 0 true : sProp 𝕄)),
    bigSep_univ_equiv ring (fun c : Dev nD => (dutyTok ER (kcell (c, .inl true)) 0 false : sProp 𝕄)),
    bigSep_univ_equiv ring.symm (fun c : Dev nD => (dutyTok ER (kcell (c, .inl true)) 0 true : sProp 𝕄)),
    bigSep_univ_equiv ring (fun c : Dev nD => (bigSep Finset.univ fun s : Fin 31 => dutyTok ER (rpCell c s) 0 false : sProp 𝕄)),
    bigSep_univ_equiv ring.symm (fun c : Dev nD => (bigSep Finset.univ fun s : Fin 31 => dutyTok ER (rmCell c s) 0 false : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := linear) fun c _ => show _ ⊢ G' m ρ c by
    unfold G'; iintro H; iexists K; iexact H)
  isplitr
  · unfold records; isplitl; · iexact HI
    iexact HR
  · unfold linear; rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a single debt owes a cell of the ring. -/
theorem tally_k (a c : Dev nD) (q k : CK) (n : ℕ) :
    (tallyAt (kcell (a, q)) () n : CellTallies nD τ sig Unit) (kcell (c, k)) () = if a = c ∧ q = k then n else 0 := by
  rw [tallyAt_apply]
  by_cases h : a = c ∧ q = k
  · rw [if_pos h, if_pos ⟨by rw [h.1, h.2], rfl⟩]
  · rw [if_neg h, if_neg]
    rintro ⟨h1, -⟩
    have := kcell_injective h1
    cases this; exact h ⟨rfl, rfl⟩

theorem sum_around (e : Dev nD ≃ Dev nD) (c : Dev nD) (P : Prop) [Decidable P] (n : ℕ) : (∑ d : Dev nD, if e d = c ∧ P then n else 0) = if P then n else 0 := by
  rw [Fintype.sum_equiv e _ (fun d => if d = c ∧ P then n else 0) (fun _ => rfl)]
  by_cases hP : P
  · simp [hP]
  · simp [hP]

/-- What cell `k` of a device is owed in all. -/
def dueOf : CK → ℕ
  | .inl _ => 2
  | .inr (1, _) => N
  | .inr (3, _) => N
  | _ => 0

theorem due_k (c : Dev nD) (k : CK) : (∑ d : Dev nD, O₀ d (kcell (c, k)) ()) = dueOf k := by
  have h (d : Dev nD) : O₀ d (kcell (c, k)) () =
      ((((if ring d = c ∧ (Sum.inl true : CK) = k then 1 else 0) + (if ring.symm d = c ∧ (Sum.inl true : CK) = k then 1 else 0))
        + ∑ s : Fin 31, ((if ring.symm d = c ∧ (Sum.inr (3, s) : CK) = k then N else 0) + (if ring d = c ∧ (Sum.inr (1, s) : CK) = k then N else 0)))
        + (if ring d = c ∧ (Sum.inl false : CK) = k then 1 else 0)) + (if ring.symm d = c ∧ (Sum.inl false : CK) = k then 1 else 0) := by
    unfold O₀ O₁ O owedHop
    rw [finFrom_zero]
    simp only [Pi.add_apply, Finsupp.add_apply, Finset.sum_apply, Finsupp.finsetSum_apply]
    rw [tally_k (nxt d) c (.inl true) k 1, tally_k (prv d) c (.inl true) k 1, tally_k (nxt d) c (.inl false) k 1, tally_k (prv d) c (.inl false) k 1,
      Finset.sum_congr rfl fun s _ => congrArg₂ (· + ·) (tally_k (prv d) c (.inr (3, s)) k N) (tally_k (nxt d) c (.inr (1, s)) k N)]
    rfl
  rw [Finset.sum_congr rfl fun d _ => h d]
  simp only [Finset.sum_add_distrib]
  rw [Finset.sum_comm, Finset.sum_comm (f := fun (d : Dev nD) (s : Fin 31) => if ring d = c ∧ (Sum.inr (1, s) : CK) = k then N else 0)]
  simp only [sum_around]
  rcases k with (_ | _) | ⟨k, t⟩
  · simp [dueOf]
  · simp [dueOf]
  · fin_cases k <;> simp [dueOf]

theorem launch_k (c : Dev nD) (k : CK) :
    tallyOn (kcell (c, k)) (launchCredit (Pipeline.owing O₀) 0 (kcell (c, k))) = (tallyAt (kcell (c, k)) () (dueOf k) : CellTallies nD τ sig Unit) := by
  unfold tallyAt; refine congrArg _ (Finsupp.ext fun u => ?_); cases u
  rw [Pipeline.launchCredit_owing, Finsupp.single_eq_same, due_k]

/-- The credit a device is dealt: two units at each barrier, a slot's credit at each arrival. -/
def credits (c : Dev nD) : sProp 𝕄 :=
  iprop((cred (tallyAt (kcell (c, .inl false)) () 2) ∗ cred (tallyAt (kcell (c, .inl true)) () 2))
    ∗ bigSep Finset.univ fun s : Fin 31 => iprop(cred (tallyAt (rpCell c s) () N) ∗ cred (tallyAt (rmCell c s) () N)))

theorem creds (c : Dev nD) : (Pipeline.launchCred O₀ c : sProp 𝕄) ⊢ credits c := by
  unfold Pipeline.launchCred
  refine (BI.bigSep_subset (Finset.subset_univ (Finset.univ.map ⟨csem, csem_injective⟩))).trans ?_
  rw [bigSep_map]
  rw [show (fun k : CK => (cred (tallyOn (((c : Dev nD).tc : Thread nD τ), (⟨csem, csem_injective⟩ : CK ↪ SemLoc sig) k)
      (launchCredit (Pipeline.owing O₀) 0 (((c : Dev nD).tc : Thread nD τ), (⟨csem, csem_injective⟩ : CK ↪ SemLoc sig) k))) : sProp 𝕄))
      = fun k => cred (tallyAt (kcell (c, k)) () (dueOf k)) from funext fun k => congrArg cred (launch_k c k)]
  rw [bigSep_CK]
  unfold credits
  refine sep_mono_right (show bigSep _ _ ⊢ bigSep _ _ from bigSep_mono fun s _ => ?_)
  show (iprop(_ ∗ _ ∗ _ ∗ _) : sProp 𝕄) ⊢ iprop(_ ∗ _)
  iintro ⟨-, H1, -, H3⟩
  isplitl [H1]; · iexact H1
  iexact H3

end Cert.RingProof

end
-- ==== Proof.Launch.lean ====
/-
# The run of the kernel on 32 devices

From any memory with zero counters, at any float values, every weakly fair execution of the program ends; then each device's result
array holds what its kernel function stored, the operands are unchanged, and every semaphore counter is zero.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its kernel function -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The ghost state, the credit and the levels device `c` starts from. -/
def start (c : Dev nD) : sProp 𝕄 := iprop(G' m ρ c ∗ credits c ∗ levAts L lv)
/-- Before: that, every slot, and the buffer for the copy of `w`; -/
def Φ₀ (c : Dev nD) : sProp 𝕄 :=
  iprop(start m ρ c ∗ (∃ f, ((c : Thread nD τ).loc cc0_scratch0) ↦{fullShare} f) ∗ slotsAny c)
/-- after: every hop's slots and closed semaphores, both barriers at zero, the copy of `w`. -/
def Φ₁ (c : Dev nD) : sProp 𝕄 :=
  iprop(bigSep Finset.univ (hopDone c) ∗ semVal (bar2Cell c) 0 ∗ semVal (barCell c) 0 ∗ wPts m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

/-- A device's tokens, positions and credit, barrier by barrier and hop by hop. -/
theorem deal (c : Dev nD) : iprop(linear c ∗ credits c)
    ⊢ (iprop(barToks c false ∗ barToks c true ∗ bigSep Finset.univ (hopToks c)) : sProp 𝕄) := by
  have h : (iprop((bigSep Finset.univ fun s : Fin 31 => iprop(atPos ER (kcell (c, .inr (0, s))) 0 ∅ 0 ∗ atPos ER (kcell (c, .inr (1, s))) 0 ∅ 0
          ∗ atPos ER (kcell (c, .inr (2, s))) 0 ∅ 0 ∗ atPos ER (kcell (c, .inr (3, s))) 0 ∅ 0))
        ∗ (bigSep Finset.univ fun s : Fin 31 => iprop(dutyTok ER (spCell c s) 0 false ∗ dutyTok ER (rpCell (nxt c) s) 0 false
          ∗ dutyTok ER (smCell c s) 0 false ∗ dutyTok ER (rmCell (prv c) s) 0 false))
        ∗ bigSep Finset.univ fun s : Fin 31 => iprop(cred (tallyAt (rpCell c s) () N) ∗ cred (tallyAt (rmCell c s) () N))) : sProp 𝕄)
      ⊢ bigSep Finset.univ (hopToks c) := by
    rw [← bigSep_sep', ← bigSep_sep']
    refine bigSep_mono fun s _ => ?_
    show _ ⊢ hopToks (F := F) c s
    unfold hopToks
    iintro ⟨⟨Ha0, Ha1, Ha2, Ha3⟩, ⟨Ht0, Ht1, Ht2, Ht3⟩, Hc1, Hc3⟩
    isplitl [Ht0]; · iexact Ht0
    isplitl [Ht1]; · iexact Ht1
    isplitl [Ht2]; · iexact Ht2
    isplitl [Ht3]; · iexact Ht3
    isplitl [Ha0]; · iexact Ha0
    isplitl [Ha1]; · iexact Ha1
    isplitl [Ha2]; · iexact Ha2
    isplitl [Ha3]; · iexact Ha3
    isplitl [Hc1]; · iexact Hc1
    iexact Hc3
  unfold linear payToks credits barToks
  rw [bigSep_CK]
  iintro ⟨⟨⟨⟨HaF, HaT⟩, Ha⟩, ⟨⟨HnF, HpF⟩, HnT, HpT⟩, Ht⟩, ⟨HcF, HcT⟩, Hc⟩
  isplitl [HpF HnF HaF HcF]
  · isplitl [HpF]; · iexact HpF
    isplitl [HnF]; · iexact HnF
    isplitl [HaF]; · iexact HaF
    iexact HcF
  isplitl [HpT HnT HaT HcT]
  · isplitl [HpT]; · iexact HpT
    isplitl [HnT]; · iexact HnT
    isplitl [HaT]; · iexact HaT
    iexact HcT
  iapply h
  isplitl [Ha]; · iexact Ha
  isplitl [Ht]; · iexact Ht
  iexact Hc

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem sound_body (c : Dev nD) :
    bodyPre m ρ c ⊢ wp frame (wpE (defs₀ (F := F)) 𝒱₀ (c : Thread nD τ) none) Set.univ (body (F := F)) (fun _ => bodyPost m ρ c) := by
  unfold bodyPre Φ₀ start G'
  iintro ⟨⟨⟨⟨%K, #HR, Hlin⟩, Hcr, #Hlev⟩, ⟨%w0, Hw⟩, Hslots⟩, Ho, ⟨%d0, %g0, %hg0, Hx⟩, ⟨%d1, %g1, %hg1, Hws⟩, ⟨%d2, %g2, %hg2, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  ihave Hd := (deal (F := F) c) $$ [Hlin Hcr]
  · isplitl [Hlin] <;> iassumption
  icases Hd with ⟨HbF, HbT, Hh⟩
  iapply (wp_body m ρ K c g2 w0 (Q := fun _ => bodyPost m ρ c)) $$ [HbF HbT Hh Hslots HO Hx Hws Hw Hout]
  · isplitr; · iexact HR
    isplitr; · iexact Hlev
    isplitl [HbF]; · iexact HbF
    isplitl [HbT]; · iexact HbT
    isplitl [Hh]; · iexact Hh
    isplitl [Hslots]; · iexact Hslots
    isplitl [HO]; · unfold owesAny; iexists W; iexact HO
    isplitl [Hx]; · unfold xPts; iexact Hx
    isplitl [Hws]; · unfold wsPts; iexact Hws
    isplitl [Hw]; · iexact Hw
    unfold oPts; iexact Hout
  unfold finished wsPts xPts oPts owesAny bodyPost Φ₁ Dat.owesAt Pipeline.owesWithin
  rw [show (dats m ρ 0 c).owed t₀.succ = 0 from rfl]
  iintro ⟨⟨Hdone, Hb2, ⟨%W', HO⟩, Hx, Hw, Hout⟩, Hws, Hb⟩
  isplitl [Hdone Hb2 Hb Hw]
  · isplitl [Hdone]; · iexact Hdone
    isplitl [Hb2]; · iexact Hb2
    isplitl [Hb]; · iexact Hb
    iexact Hw
  isplitl [HO]
  · iexists W'
    isplitr; · ipureintro; exact fun _ _ => Or.inl trivial
    iexact HO
  isplitl [Hx]
  · iexists _; isplitr; · (ipureintro; rfl)
    iexact Hx
  isplitl [Hws]
  · iexists _; isplitr; · (ipureintro; rfl)
    iexact Hws
  iexists _; isplitr; · (ipureintro; rfl)
  iexact Hout

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) wbM (Memref.isWhole_whole _) spM (Memref.isWhole_whole _)
      rpM (Memref.isWhole_whole _) smM (Memref.isWhole_whole _) rmM (Memref.isWhole_whole _) cc0_scratch5 cc0_scratch6 cc0_scratch7 cc0_scratch8 cc0_scoped0)
    (fun _ => bodyPost m ρ c)
  rw [body_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem whole_set (b : Ref sig .tc) : (Memref.whole b).view.set = Finset.univ := by
  rw [Memref.view_whole]; exact View.set_whole _

/-- The four buffers of slots, cut into slots; -/
theorem slotsAny_intro (c : Dev nD) :
    iprop((∃ f, ((c : Thread nD τ).loc cc0_scratch1) ↦{fullShare} f) ∗ (∃ f, ((c : Thread nD τ).loc cc0_scratch2) ↦{fullShare} f)
        ∗ (∃ f, ((c : Thread nD τ).loc cc0_scratch3) ↦{fullShare} f) ∗ (∃ f, ((c : Thread nD τ).loc cc0_scratch4) ↦{fullShare} f))
      ⊢ (slotsAny c : sProp 𝕄) := by
  have hs : (bigSep Finset.univ (spare c) : sProp 𝕄) = iprop(bigSep Finset.univ (fun s => slotAny spM c s) ∗ bigSep Finset.univ (fun s => slotAny smM c s)) := by
    rw [← bigSep_sep']; rfl
  unfold slotsAny
  rw [hs]
  iintro ⟨⟨%f1, H1⟩, ⟨%f2, H2⟩, ⟨%f3, H3⟩, ⟨%f4, H4⟩⟩
  ihave G1 := (slots_split spM (whole_set _) c f1) $$ H1
  ihave G2 := (slots_split rpM (whole_set _) c f2) $$ H2
  ihave G3 := (slots_split smM (whole_set _) c f3) $$ H3
  ihave G4 := (slots_split rmM (whole_set _) c f4) $$ H4
  isplitl [G1 G3]
  · isplitl [G1] <;> iassumption
  isplitl [G2] <;> iassumption
/-- and the hops behind give the buffers and the DMA semaphores back. -/
theorem hops_exit (m : (ℓ : Loc nD τ sig) → Buf (Elt F) ℓ) (c : Dev nD) :
    (bigSep Finset.univ (hopDone c) : sProp 𝕄)
      ⊢ iprop(((∃ f, ((c : Thread nD τ).loc cc0_scratch1) ↦{fullShare} f) ∗ (∃ f, ((c : Thread nD τ).loc cc0_scratch2) ↦{fullShare} f)
        ∗ (∃ f, ((c : Thread nD τ).loc cc0_scratch3) ↦{fullShare} f) ∗ (∃ f, ((c : Thread nD τ).loc cc0_scratch4) ↦{fullShare} f))
        ∗ bigSep Finset.univ fun s : Fin 31 => iprop(semVal (spCell c s) 0 ∗ semVal (rpCell c s) 0 ∗ semVal (smCell c s) 0 ∗ semVal (rmCell c s) 0)) := by
  have hs : (bigSep Finset.univ (hopDone c) : sProp 𝕄) = iprop(bigSep Finset.univ (fun s => slotAny spM c s) ∗ bigSep Finset.univ (fun s => slotAny rpM c s)
      ∗ bigSep Finset.univ (fun s => slotAny smM c s) ∗ bigSep Finset.univ (fun s => slotAny rmM c s)
      ∗ bigSep Finset.univ fun s : Fin 31 => iprop(semVal (spCell c s) 0 ∗ semVal (rpCell c s) 0 ∗ semVal (smCell c s) 0 ∗ semVal (rmCell c s) 0)) := by
    rw [← bigSep_sep', ← bigSep_sep', ← bigSep_sep', ← bigSep_sep']; rfl
  rw [hs]
  iintro ⟨G1, G2, G3, G4, HS⟩
  ihave H1 := (slots_join m spM (whole_set _) c) $$ G1
  ihave H2 := (slots_join m rpM (whole_set _) c) $$ G2
  ihave H3 := (slots_join m smM (whole_set _) c) $$ G3
  ihave H4 := (slots_join m rmM (whole_set _) c) $$ G4
  isplitl [H1 H2 H3 H4]
  · isplitl [H1]; · iexact H1
    isplitl [H2]; · iexact H2
    isplitl [H3]; · iexact H3
    iexact H4
  iexact HS

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, Hr⟩
  isplitl [Hs]; · iexact Hs
  isplitl [H0]; · iexact H0
  iapply (slotsAny_intro (F := F) c)
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ wPts
  iintro ⟨Hd, H2, HB, Hw⟩
  ihave H := (hops_exit m c) $$ Hd
  icases H with ⟨Hb, HS⟩
  isplitl [HB]; · iexact HB
  isplitl [H2 HS]
  · isplitl [H2] <;> iassumption
  isplitl [Hw]
  · iexists _; iexact Hw
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- Every weakly fair execution of the program on the 32 devices ends, with each device's arrays as `finalA` says and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they began, -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Product.lean ====
/-
# What one block product computes

Read at the ideal values. Device `d` holds columns of `x` and rows of `w`; the product of its rows `128 b … 128 b + 127` of `x` with
its block of `w` is `part d b`, and each product that the kernel forms is one of these, at the block of rows that its hop is due.
-/
module

public import proofs.«01_k».proof.Proof.Schedule
public import Idealize.ShloMosaic.Lib.MatmulPlain
public import Idealize.ShloMosaic.Lib.ValueIdx
public import Idealize.ShloMosaic.Lib.Pipeline.Value

@[expose] public section

noncomputable section

namespace Cert.RingProof

open Cert.KernelIdeal Cert.KernelIdeal.Gen

open Idealize.ShloMosaic
open Idealize.ShloMosaic.TcCoe
open Idealize.ShloMosaic.ValueIdx

/-! ## Around the ring -/

theorem prv_val : ∀ c : Dev nD, (prv c).val = (c.val + 31) % 32 := by decide +kernel
theorem nxt_val : ∀ c : Dev nD, (nxt c).val = (c.val + 1) % 32 := by decide +kernel

/-- `n` steps to the left, and to the right. -/
theorem prv_iter_val (n : ℕ) (c : Dev nD) : (prv^[n] c).val = (c.val + 31 * n) % 32 := by
  induction n generalizing c with
  | zero => have : c.val < 32 := c.isLt; show c.val = _; omega
  | succ n ih => rw [Function.iterate_succ_apply, ih, prv_val]; omega
theorem nxt_iter_val (n : ℕ) (c : Dev nD) : (nxt^[n] c).val = (c.val + n) % 32 := by
  induction n generalizing c with
  | zero => have : c.val < 32 := c.isLt; show c.val = _; omega
  | succ n ih => rw [Function.iterate_succ_apply, ih, nxt_val]; omega

/-! ## The blocks -/

/-- Row `r` of row block `b`; column `j` of the left and of the right half. -/
def rowOf (b : Fin 32) (r : Fin 128) : Fin 4096 := ⟨128 * b.val + r.val, by have := b.isLt; have := r.isLt; omega⟩
def loCol (j : Fin 1024) : Fin 2048 := ⟨j.val, by have := j.isLt; omega⟩
def hiCol (j : Fin 1024) : Fin 2048 := ⟨1024 + j.val, by have := j.isLt; omega⟩

variable (m : (ℓ : Loc nD τ sig) → Buf (Elt Ideal) ℓ) (ρ : Dev nD → PrngReg)

/-- The entries of device `d`'s blocks of `x` and of `w`. -/
def xAt (d : Dev nD) (i : Fin 4096) (k : Fin 128) : EReal := xstg (F := Ideal) m ρ d (ix2 i k)
def wAt (d : Dev nD) (k : Fin 128) (j : Fin 2048) : EReal := wstg (F := Ideal) m ρ d (ix2 k j)

/-- Device `d`'s share of the product at row `r` of row block `b` and column `j`. -/
def part (d : Dev nD) (b : Fin 32) (r : Fin 128) (j : Fin 2048) : EReal :=
  ∑ k : Fin 128, xAt m ρ d (rowOf b r) k * wAt m ρ d k j

theorem dot_plain : dot_S128x128_S128x1024_S128x1024_1_0_0_1_n_n = DotDims.plain 128 128 1024 := rfl

/-- A block product into zero, at an index. -/
theorem dot_apply (a : FVec Ideal S128x128 .bf16) (b : FVec Ideal S128x1024 .bf16) (r : Fin 128) (j : Fin 1024) :
    matmul dot_S128x128_S128x1024_S128x1024_1_0_0_1_n_n none a b (constant S128x1024 .f32 0#32) (ix2 r j) = ∑ k : Fin 128, a (ix2 r k) * b (ix2 k j) := by
  simp only [matmul]
  rw [dot_plain, Ideal.matmul_plain_apply, constant_apply, Ideal.ofBits_zero_f32, zero_add]

theorem xRd_apply (c : Dev nD) (b : Fin 32) (off : Fin 2 → ℕ) (inb : ∀ a, off a + S128x128.size a ≤ S4096x128.size a) (h0 : off 0 = 128 * b.val) (h1 : off 1 = 0)
    (r k : Fin 128) : xRd m ρ c (Rect.unit (s := S4096x128) off S128x128.size inb) (ix2 r k) = xAt m ρ c (rowOf b r) k := by
  unfold xRd xAt
  refine congrArg (xstg m ρ c) (funext fun a => Fin.ext ?_)
  fin_cases a
  · show off 0 + 1 * r.val = 128 * b.val + r.val; omega
  · show off 1 + 1 * k.val = k.val; omega
theorem wcp_eq (c : Dev nD) : wcp m ρ c = wstg m ρ c := by
  unfold wcp k0_pay1; simp only [shapeCast_self]
theorem wLo_apply (c : Dev nD) (k : Fin 128) (j : Fin 1024) : wLo m ρ c (ix2 k j) = wAt m ρ c k (loCol j) := by
  unfold wLo wAt; rw [wcp_eq]
  refine congrArg (wstg m ρ c) (funext fun a => Fin.ext ?_)
  fin_cases a
  · show 0 + 1 * k.val = k.val; omega
  · show 0 + 1 * j.val = j.val; omega
theorem wHi_apply (c : Dev nD) (k : Fin 128) (j : Fin 1024) : wHi m ρ c (ix2 k j) = wAt m ρ c k (hiCol j) := by
  unfold wHi wAt; rw [wcp_eq]
  refine congrArg (wstg m ρ c) (funext fun a => Fin.ext ?_)
  fin_cases a
  · show 0 + 1 * k.val = k.val; omega
  · show 1024 + 1 * j.val = 1024 + j.val; omega

/-- A product of loaded rows with the left half, and with the right half, is the device's share. -/
theorem dot_lo (c : Dev nD) (b : Fin 32) (off : Fin 2 → ℕ) (inb : ∀ a, off a + S128x128.size a ≤ S4096x128.size a) (h0 : off 0 = 128 * b.val) (h1 : off 1 = 0)
    (r : Fin 128) (j : Fin 1024) :
    matmul (φ₁ := .bf16) (φ₂ := .bf16) dot_S128x128_S128x1024_S128x1024_1_0_0_1_n_n none (xRd m ρ c (Rect.unit (s := S4096x128) off S128x128.size inb))
      (wLo m ρ c) (constant S128x1024 .f32 0#32) (ix2 r j) = part m ρ c b r (loCol j) := by
  rw [dot_apply]; unfold part
  exact Finset.sum_congr rfl fun k _ => by rw [xRd_apply m ρ c b off inb h0 h1, wLo_apply]
theorem dot_hi (c : Dev nD) (b : Fin 32) (off : Fin 2 → ℕ) (inb : ∀ a, off a + S128x128.size a ≤ S4096x128.size a) (h0 : off 0 = 128 * b.val) (h1 : off 1 = 0)
    (r : Fin 128) (j : Fin 1024) :
    matmul (φ₁ := .bf16) (φ₂ := .bf16) dot_S128x128_S128x1024_S128x1024_1_0_0_1_n_n none (xRd m ρ c (Rect.unit (s := S4096x128) off S128x128.size inb))
      (wHi m ρ c) (constant S128x1024 .f32 0#32) (ix2 r j) = part m ρ c b r (hiCol j) := by
  rw [dot_apply]; unfold part
  exact Finset.sum_congr rfl fun k _ => by rw [xRd_apply m ρ c b off inb h0 h1, wHi_apply]

/-! ## The blocks that the hops are due -/

theorem off1_eq : ∀ c : Dev nD, k0_off1 c 0 = 128 * ((c.val + 31 * 1) % 32) ∧ k0_off1 c 1 = 0 := by decide +kernel
theorem off2_eq : ∀ c : Dev nD, k0_off2 c 0 = 128 * ((c.val + 1) % 32) ∧ k0_off2 c 1 = 0 := by decide +kernel
theorem off3_eq : ∀ (c : Dev nD) (s : Fin 31), k0_off3 c (BitVec.ofNat 32 s.val) 0 = 128 * ((c.val + 31 * (s.val + 2)) % 32) ∧ k0_off3 c (BitVec.ofNat 32 s.val) 1 = 0 := by
  decide +kernel
theorem off4_eq : ∀ (c : Dev nD) (s : Fin 31), k0_off4 c (BitVec.ofNat 32 s.val) 0 = 128 * ((c.val + (s.val + 2)) % 32) ∧ k0_off4 c (BitVec.ofNat 32 s.val) 1 = 0 := by
  decide +kernel

/-- Hop `s` of the right-going ring adds device `c`'s share of the block of the device `s + 2` to its left, -/
theorem prodP_apply (c : Dev nD) (s : Fin 31) (r : Fin 128) (j : Fin 1024) :
    (prodP m ρ c s (ix2 r j) : EReal) = part m ρ c (prv^[s.val + 2] c) r (loCol j) := by
  unfold prodP k0_pay4
  simp only [shapeCast_self]
  exact dot_lo m ρ c _ _ _ ((off3_eq c s).1.trans (by rw [← prv_iter_val])) (off3_eq c s).2 r j
/-- and of the left-going ring the block of the device `s + 2` to its right. -/
theorem prodM_apply (c : Dev nD) (s : Fin 31) (r : Fin 128) (j : Fin 1024) :
    (prodM m ρ c s (ix2 r j) : EReal) = part m ρ c (nxt^[s.val + 2] c) r (hiCol j) := by
  unfold prodM k0_pay5
  simp only [shapeCast_self]
  exact dot_hi m ρ c _ _ _ ((off4_eq c s).1.trans (by rw [← nxt_iter_val])) (off4_eq c s).2 r j

end Cert.RingProof

end
-- ==== Proof.Travel.lean ====
/-
# What has been added up when a block arrives

Read at the ideal values. At hop `s` a device sends on the sum of the shares of `s + 1` devices, itself and the `s` behind it, of one
block of rows; after the last hop a device has added up the shares of all 32 devices of its own block of rows, and it stores the
activation of that sum.
-/
module

public import proofs.«01_k».proof.Proof.Product

@[expose] public section

noncomputable section

namespace Cert.RingProof

open Cert.KernelIdeal Cert.KernelIdeal.Gen

open Idealize.ShloMosaic
open Idealize.ShloMosaic.TcCoe
open Idealize.ShloMosaic.ValueIdx

/-! ## Around a ring, in general -/

section Ring

variable {A : Type} (e : A → A) (p : A → A → EReal)

/-- If each station adds its own share of the block on its way, the block carries the sum of the shares so far. -/
theorem carried (n : ℕ) (f : ℕ → A → EReal) (h0 : ∀ c, f 0 c = p c (e^[1] c)) (hs : ∀ s, s + 1 ≤ n → ∀ c, f (s + 1) c = f s (e c) + p c (e^[s + 2] c)) :
    ∀ s, s ≤ n → ∀ c, f s c = ∑ t ∈ Finset.range (s + 1), p (e^[t] c) (e^[s + 1] c)
  | 0, _, c => by rw [h0, Finset.sum_range_one]; rfl
  | s + 1, hn, c => by
    rw [hs s hn c, carried n f h0 hs s (by omega) (e c), Finset.sum_range_succ' _ (s + 1)]
    rfl

end Ring

/-- Going all the way around to the left meets every device once, -/
theorem sum_prv (c : Dev nD) (g : Dev nD → EReal) : (∑ t ∈ Finset.range 32, g (prv^[t] c)) = ∑ d : Dev nD, g d := by
  rw [Finset.sum_range (fun t => g (prv^[t] c))]
  refine Fintype.sum_bijective (fun t : Fin 32 => (prv^[t.val] c : Dev nD)) ?_ _ _ fun _ => rfl
  refine (Finite.injective_iff_bijective (α := Fin 32)).mp fun a b h => Fin.ext ?_
  have h' := congrArg Fin.val h
  simp only [prv_iter_val] at h'
  have := a.isLt; have := b.isLt
  omega
/-- and so does going to the right. -/
theorem sum_nxt (c : Dev nD) (g : Dev nD → EReal) : (∑ t ∈ Finset.range 32, g (nxt^[t] c)) = ∑ d : Dev nD, g d := by
  rw [Finset.sum_range (fun t => g (nxt^[t] c))]
  refine Fintype.sum_bijective (fun t : Fin 32 => (nxt^[t.val] c : Dev nD)) ?_ _ _ fun _ => rfl
  refine (Finite.injective_iff_bijective (α := Fin 32)).mp fun a b h => Fin.ext ?_
  have h' := congrArg Fin.val h
  simp only [nxt_iter_val] at h'
  have := a.isLt; have := b.isLt
  omega

theorem prv_around (c : Dev nD) : prv^[32] c = c := Fin.ext (by rw [prv_iter_val]; have : c.val < 32 := c.isLt; omega)
theorem nxt_around (c : Dev nD) : nxt^[32] c = c := Fin.ext (by rw [nxt_iter_val]; have : c.val < 32 := c.isLt; omega)

variable (m : (ℓ : Loc nD τ sig) → Buf (Elt Ideal) ℓ) (ρ : Dev nD → PrngReg)

/-! ## What travels -/

/-- What is sent to the right at hop `s`, -/
theorem pP_apply (r : Fin 128) (j : Fin 1024) (s : ℕ) (hs : s ≤ 30) (c : Dev nD) :
    (pP m ρ s c (ix2 r j) : EReal) = ∑ t ∈ Finset.range (s + 1), part m ρ (prv^[t] c) (prv^[s + 1] c) r (loCol j) := by
  refine carried prv (fun d b => part m ρ d b r (loCol j)) 30 (fun s c => (pP m ρ s c (ix2 r j) : EReal)) (fun c => ?_) (fun s hs c => ?_) s hs c
  · unfold pP k0_pay2
    simp only [shapeCast_self]
    rw [shapeCast_shapeCast, truncf_apply]
    exact dot_lo m ρ c _ _ _ ((off1_eq c).1.trans (by rw [← prv_iter_val])) (off1_eq c).2 r j
  · have hv : (Fin.ofNat 31 s : Fin 31).val = s := Nat.mod_eq_of_lt (by omega)
    show shapeCast S128x1024 (k0_pay6 (prodP m ρ c (Fin.ofNat 31 s)) (shapeCast S1x128x1024 (pP m ρ s (prv c)) cast_in)) cast_out (ix2 r j) = _
    unfold k0_pay6
    simp only []
    rw [shapeCast_shapeCast, truncf_apply, addf_apply, extf_apply, shapeCast_shapeCast]
    refine congrArg (_ + ·) ?_
    rw [prodP_apply, hv]
/-- and to the left. -/
theorem pM_apply (r : Fin 128) (j : Fin 1024) (s : ℕ) (hs : s ≤ 30) (c : Dev nD) :
    (pM m ρ s c (ix2 r j) : EReal) = ∑ t ∈ Finset.range (s + 1), part m ρ (nxt^[t] c) (nxt^[s + 1] c) r (hiCol j) := by
  refine carried nxt (fun d b => part m ρ d b r (hiCol j)) 30 (fun s c => (pM m ρ s c (ix2 r j) : EReal)) (fun c => ?_) (fun s hs c => ?_) s hs c
  · unfold pM k0_pay3
    simp only [shapeCast_self]
    rw [shapeCast_shapeCast, truncf_apply]
    exact dot_hi m ρ c _ _ _ ((off2_eq c).1.trans (by rw [← nxt_iter_val])) (off2_eq c).2 r j
  · have hv : (Fin.ofNat 31 s : Fin 31).val = s := Nat.mod_eq_of_lt (by omega)
    show shapeCast S128x1024 (k0_pay7 (prodM m ρ c (Fin.ofNat 31 s)) (shapeCast S1x128x1024 (pM m ρ s (nxt c)) cast_in)) cast_out (ix2 r j) = _
    unfold k0_pay7
    simp only []
    rw [shapeCast_shapeCast, truncf_apply, addf_apply, extf_apply, shapeCast_shapeCast]
    refine congrArg (_ + ·) ?_
    rw [prodM_apply, hv]

/-! ## The sum that arrives, and what is stored -/

/-- The sum of all devices' shares at row `r` of row block `b` and column `j`. -/
def total (b : Fin 32) (r : Fin 128) (j : Fin 2048) : EReal := ∑ d : Dev nD, part m ρ d b r j

theorem sumLo (c : Dev nD) (r : Fin 128) (j : Fin 1024) :
    (pP m ρ 30 (prv c) (ix2 r j) : EReal) + (prodP m ρ c 30 (ix2 r j) : EReal) = total m ρ c r (loCol j) := by
  rw [pP_apply m ρ r j 30 le_rfl, prodP_apply]
  show (∑ t ∈ Finset.range 31, part m ρ (prv^[t] (prv c)) (prv^[31] (prv c)) r (loCol j)) + part m ρ c (prv^[32] c) r (loCol j) = _
  simp only [← Function.iterate_succ_apply]
  rw [prv_around]
  exact (Finset.sum_range_succ' (fun t => part m ρ (prv^[t] c) c r (loCol j)) 31).symm.trans (sum_prv c fun d => part m ρ d c r (loCol j))
theorem sumHi (c : Dev nD) (r : Fin 128) (j : Fin 1024) :
    (pM m ρ 30 (nxt c) (ix2 r j) : EReal) + (prodM m ρ c 30 (ix2 r j) : EReal) = total m ρ c r (hiCol j) := by
  rw [pM_apply m ρ r j 30 le_rfl, prodM_apply]
  show (∑ t ∈ Finset.range 31, part m ρ (nxt^[t] (nxt c)) (nxt^[31] (nxt c)) r (hiCol j)) + part m ρ c (nxt^[32] c) r (hiCol j) = _
  simp only [← Function.iterate_succ_apply]
  rw [nxt_around]
  exact (Finset.sum_range_succ' (fun t => part m ρ (nxt^[t] c) c r (hiCol j)) 31).symm.trans (sum_nxt c fun d => part m ρ d c r (hiCol j))

/-- The activation: the tanh form of GELU, its constants at their single-precision values. -/
def gelu (y : EReal) : EReal :=
  (Ideal.ofBits .f32 0x3F000000#32 * y)
    * (Ideal.ofBits .f32 0x3F800000#32 + Ideal.tanh (Ideal.ofBits .f32 0x3F4C422A#32 * (y + Ideal.ofBits .f32 0x3D372713#32 * ((y * y) * y))))

/-- The left and the right half of the result. -/
theorem outLo_apply (c : Dev nD) (r : Fin 128) (j : Fin 1024) : (outLo m ρ c (ix2 r j) : EReal) = gelu (total m ρ c r (loCol j)) := by
  rw [← sumLo]
  unfold outLo k0_pay140 k0_pay138
  simp only []
  rw [shapeCast_shapeCast]
  unfold gelu
  rw [← mul_assoc (Ideal.ofBits .f32 0x3D372713#32), ← mul_assoc (Ideal.ofBits .f32 0x3D372713#32)]
  rfl
theorem outHi_apply (c : Dev nD) (r : Fin 128) (j : Fin 1024) : (outHi m ρ c (ix2 r j) : EReal) = gelu (total m ρ c r (hiCol j)) := by
  rw [← sumHi]
  unfold outHi k0_pay143 k0_pay141 k0_pay142 k0_pay139
  simp only []
  rw [shapeCast_shapeCast]
  unfold gelu
  rw [← mul_assoc (Ideal.ofBits .f32 0x3D372713#32), ← mul_assoc (Ideal.ofBits .f32 0x3D372713#32)]
  rfl

/-- The result on device `c`: the activation of the summed shares of its own block of rows. -/
theorem outAt_apply (c : Dev nD) (r : Fin 128) (j : Fin 2048) : (outAt m ρ c (ix2 r j) : EReal) = gelu (total m ρ c r j) := by
  unfold outAt
  by_cases h : j.val < 1024
  · refine Eq.trans (dif_pos h) ?_
    refine Eq.trans (congrArg (outLo m ρ c) (funext fun a => Fin.ext ?_)) (outLo_apply m ρ c r ⟨j.val, h⟩)
    fin_cases a <;> rfl
  · have hj : j.val < 2048 := j.isLt
    refine Eq.trans (dif_neg h) ?_
    refine Eq.trans (congrArg (outHi m ρ c) (funext fun a => Fin.ext ?_)) ((outHi_apply m ρ c r ⟨j.val - 1024, by omega⟩).trans ?_)
    · fin_cases a <;> rfl
    · refine congrArg (fun j => gelu (total m ρ c r j)) (Fin.ext ?_)
      show 1024 + (j.val - 1024) = j.val
      omega

end Cert.RingProof

end
-- ==== Proof.Reference.lean ====
/-
# What the reference computes

The reference's result as one term of its two arguments, and its entry at row `a` and column `b`: the activation of the plain product
of row `a` of `x` with column `b` of `w`.
-/
module

public import proofs.«01_k».proof.Proof.Travel
public import proofs.«01_k».proof.Proof.Gen.ReferenceIdeal.Run
public import Idealize.ShloMosaic.Lib.StackMember
public import Idealize.ShloMosaic.Lib.IdealHost
public import Idealize.ShloMosaic.Lib.Layout

@[expose] public section

noncomputable section

namespace Cert.RingProof

open Cert.ReferenceIdeal Cert.ReferenceIdeal.Gen

open Idealize.ShloMosaic
open Idealize.ShloMosaic.TcCoe
open Idealize.ShloMosaic.ValueIdx

/-- The reference's product of the whole arrays, -/
def refProd (x : FVec Ideal S4096x4096 .bf16) (w : FVec Ideal S4096x2048 .bf16) :
    FVec Ideal S4096x2048 .f32 :=
  extf .f32 (truncf .bf16 (Host.dotGeneral dot_S4096x4096_S4096x2048_S4096x2048_1_0_0_1_n_n none x w) bitsLt_bf16_f32) bitsLt_bf16_f32

/-- and its result, the activation of that product. -/
def refOut (x : FVec Ideal S4096x4096 .bf16) (w : FVec Ideal S4096x2048 .bf16) :
    FVec Ideal S4096x2048 .f32 :=
  mulf (mulf (broadcastInDim S4096x2048 ![] bcast_S_S4096x2048 (constant S_ .f32 0x3F000000#32)) (refProd x w))
    (addf (broadcastInDim S4096x2048 ![] bcast_S_S4096x2048 (constant S_ .f32 0x3F800000#32))
      (Host.tanh (mulf (broadcastInDim S4096x2048 ![] bcast_S_S4096x2048 (constant S_ .f32 0x3F4C422A#32))
        (addf (refProd x w) (mulf (broadcastInDim S4096x2048 ![] bcast_S_S4096x2048 (constant S_ .f32 0x3D372713#32))
          (mulf (mulf (refProd x w) (refProd x w)) (refProd x w)))))))

/-- The reference runs, leaves `refOut` of its arguments in its result, its arguments as they were and every counter at zero. -/
theorem run_reference (m' : (ℓ : Loc nD τ sig) → Buf (Elt Ideal) ℓ) (ρ' : Dev nD → PrngReg) :
    θ_run (defs (F := Ideal)) (onTc (τ := τ) (main (F := Ideal))) ⟨m', fun _ => 0, ρ'⟩ (fun r =>
      (∀ c : Dev nD, r.2.mem ((c.tc : Thread nD τ).loc main_v15) = refOut (m' ((c.tc : Thread nD τ).loc main_arg0)) (m' ((c.tc : Thread nD τ).loc main_arg1))
        ∧ r.2.mem ((c.tc : Thread nD τ).loc main_arg0) = m' ((c.tc : Thread nD τ).loc main_arg0)
        ∧ r.2.mem ((c.tc : Thread nD τ).loc main_arg1) = m' ((c.tc : Thread nD τ).loc main_arg1))
      ∧ r.2.sem = fun _ => 0) :=
  (θ_run (defs (F := Ideal)) _ _).mono (fun r h => ⟨h, sem_eq_zero_of_no_sems (by decide) r.2⟩) (Value.run (F := Ideal) m' ρ')

theorem refProd_apply (x : FVec Ideal S4096x4096 .bf16) (w : FVec Ideal S4096x2048 .bf16)
    (a : Fin 4096) (b : Fin 2048) : (refProd x w (ix2 a b) : EReal) = ∑ k : Fin 4096, (x (ix2 a k) : EReal) * (w (ix2 k b) : EReal) := by
  unfold refProd
  rw [extf_apply, truncf_apply]
  exact StackMember.dotGeneral_plain_apply (m := 4096) (k := 4096) (n := 2048) none x w a b

/-- The reference at row `a`, column `b`. -/
theorem refOut_apply (x : FVec Ideal S4096x4096 .bf16) (w : FVec Ideal S4096x2048 .bf16)
    (a : Fin 4096) (b : Fin 2048) : (refOut x w (ix2 a b) : EReal) = gelu (∑ k : Fin 4096, (x (ix2 a k) : EReal) * (w (ix2 k b) : EReal)) := by
  rw [← refProd_apply]
  rfl

end Cert.RingProof

end
-- ==== Proof.Value.lean ====
/-
# The equation

The devices' shares of a block of rows add up to the product of the whole arrays, since device `d` holds columns `128 d … 128 d + 127`
of `x` and the same rows of `w`. So device `c` ends with block `c` of the reference's result.
-/
module

public import proofs.«01_k».proof.Proof.Launch
public import proofs.«01_k».proof.Proof.Reference

@[expose] public section

noncomputable section

namespace Cert.RingProof

open Cert.KernelIdeal Cert.KernelIdeal.Gen

open Idealize.ShloMosaic
open Idealize.ShloMosaic.TcCoe
open Idealize.ShloMosaic.ValueIdx

section Arrays

variable {F : FTy → Type} [FloatOps F]
variable (m : (ℓ : Loc nD τ sig) → Buf (Elt F) ℓ) (ρ : Dev nD → PrngReg)

/-- The staged blocks are the argument arrays, -/
theorem xstg_eq (c : Dev nD) : xstg m ρ c = m ((c : Thread nD τ).loc main_arg0) :=
  Memref.read_access_unit_zero (Elt F) main_arg0 (funext fun a => Nat.zero_mul _) (fun a => by fin_cases a <;> decide) _
theorem wstg_eq (c : Dev nD) : wstg m ρ c = m ((c : Thread nD τ).loc main_arg1) :=
  Memref.read_access_unit_zero (Elt F) main_arg1 (funext fun a => Nat.zero_mul _) (fun a => by fin_cases a <;> decide) _

/-- and the result array ends as what the body leaves staged. -/
theorem finalA_o (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => Nat.zero_mul _) (fun a => by fin_cases a <;> decide) _).symm.trans h

end Arrays

/-! ## Columns of `x` by devices -/

/-- Column `128 d + k`. -/
def colOf (d : Fin 32) (k : Fin 128) : Fin 4096 := ⟨128 * d.val + k.val, by omega⟩

/-- A sum over all 4096 columns is taken device by device. -/
theorem sum_cols (f : Fin 4096 → EReal) : (∑ d : Fin 32, ∑ k : Fin 128, f (colOf d k)) = ∑ K : Fin 4096, f K := by
  rw [← Fintype.sum_prod_type' (fun (d : Fin 32) (k : Fin 128) => f (colOf d k))]
  refine Fintype.sum_equiv (finProdFinEquiv (m := 32) (n := 128)) _ _ fun p => congrArg f (Fin.ext ?_)
  show 128 * p.1.val + p.2.val = p.2.val + 128 * p.1.val
  exact Nat.add_comm _ _

/-! ## The value -/

section Value

variable (m : (ℓ : Loc nD τ sig) → Buf (Elt Ideal) ℓ) (ρ : Dev nD → PrngReg)
variable (x : (⟨2, ![4096, 4096]⟩ : Shape).Idx → EReal) (w : (⟨2, ![4096, 2048]⟩ : Shape).Idx → EReal)

/-- With the arguments dealt out, the summed shares are the entries of the whole product. -/
theorem total_eq (hx : ∀ c : Dev nD, m ((c : Thread nD τ).loc main_arg0) = Layout.block ⟨2, ![4096, 128]⟩ ⟨2, ![4096, 4096]⟩ 1 32 c x)
    (hw : ∀ c : Dev nD, m ((c : Thread nD τ).loc main_arg1) = Layout.block ⟨2, ![128, 2048]⟩ ⟨2, ![4096, 2048]⟩ 0 32 c w)
    (b : Fin 32) (r : Fin 128) (j : Fin 2048) : total m ρ b r j = ∑ K : Fin 4096, x (ix2 (rowOf b r) K) * w (ix2 K j) := by
  rw [← sum_cols]
  refine Finset.sum_congr rfl fun d _ => Finset.sum_congr rfl fun k _ => congrArg₂ (· * ·) ?_ ?_
  · refine (congrFun ((xstg_eq m ρ d).trans (hx d)) (ix2 (rowOf b r) k)).trans (congrArg x (funext fun a => Fin.ext ?_))
    fin_cases a
    · rfl
    · show d.val * 128 + k.val = 128 * d.val + k.val
      rw [Nat.mul_comm]
  · refine (congrFun ((wstg_eq m ρ d).trans (hw d)) (ix2 k j)).trans (congrArg w (funext fun a => Fin.ext ?_))
    fin_cases a
    · show d.val * 128 + k.val = 128 * d.val + k.val
      rw [Nat.mul_comm]
    · rfl

/-- Device `c`'s result is block `c` of the reference's. -/
theorem out_eq (hx : ∀ c : Dev nD, m ((c : Thread nD τ).loc main_arg0) = Layout.block ⟨2, ![4096, 128]⟩ ⟨2, ![4096, 4096]⟩ 1 32 c x)
    (hw : ∀ c : Dev nD, m ((c : Thread nD τ).loc main_arg1) = Layout.block ⟨2, ![128, 2048]⟩ ⟨2, ![4096, 2048]⟩ 0 32 c w)
    (c : Dev nD) : finalA m ρ c (2 : Fin 3) = Layout.block ⟨2, ![128, 2048]⟩ ⟨2, ![4096, 2048]⟩ 0 32 c (refOut x w) := by
  rw [finalA_o]
  funext i
  obtain ⟨r, j, rfl⟩ : ∃ (r : Fin 128) (j : Fin 2048), i = ix2 r j := ⟨i 0, i 1, eq_ix2 i⟩
  refine (outAt_apply m ρ c r j).trans ?_
  rw [total_eq m ρ x w hx hw]
  refine (refOut_apply x w (rowOf c r) j).symm.trans (congrArg (refOut x w) (funext fun a => Fin.ext ?_))
  fin_cases a
  · show 128 * c.val + r.val = c.val * 128 + r.val
    rw [Nat.mul_comm]
  · rfl

end Value

end Cert.RingProof

end
-- ==== Proof.lean ====
/-
# The certificate

The frames of both forms of the kernel are read off the one run of `Proof/Launch.lean`, the reference's off its own run; the value
claim is assembled from `Proof/Value.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at any float values: it ends, its arguments unchanged and every semaphore counter at zero. -/
theorem frame_kernelIdeal_at {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono
    (fun r h => ⟨fun c => ⟨(h.1 c (0 : Fin 3)).trans (RingProof.finalA_x m ρ c), (h.1 c (1 : Fin 3)).trans (RingProof.finalA_w m ρ c)⟩, h.2⟩)
    (RingProof.run_main m ρ)

/-- At the ideal values, -/
theorem frame_kernelIdeal : Cert.quiescent_KernelIdeal := fun m ρ _ => frame_kernelIdeal_at (F := Ideal) m ρ

set_option maxRecDepth 100000 in
/-- The two forms of the kernel are one text: the body each label runs is the same, -/
theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  obtain rfl : l = (0 : Fin 1) := Subsingleton.elim _ _
  obtain ⟨t, s⟩ := a
  rfl

set_option maxRecDepth 100000 in
/-- and so is the whole table of definitions. -/
theorem defs_eq : Cert.Kernel.defs (F := Bits) = Cert.KernelIdeal.defs (F := Bits) :=
  congrArg (Pipeline.defs (Cert.KernelIdeal.pcfgs (F := Bits))) bodies_eq

/-- So the frame of the one is the frame of the other. -/
theorem frame_kernel : Cert.quiescent_Kernel := fun m ρ _ => by
  rw [defs_eq]
  exact frame_kernelIdeal_at (F := Bits) m ρ

/-- The reference's frame. -/
theorem frame_reference : Cert.quiescent_ReferenceIdeal := fun m ρ _ =>
  (θ_run (Cert.ReferenceIdeal.defs (F := Ideal)) _ _).mono (fun r h => ⟨fun c => (h.1 c).2, h.2⟩) (RingProof.run_reference m ρ)

/-- Each device ends with its block of the reference's result. -/
theorem value : Cert.algebraic_KernelIdeal_ReferenceIdeal := fun m ρ m' ρ' _ hin =>
  ⟨RingProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun r h c => ⟨(h.1 c (2 : Fin 3)).trans (RingProof.out_eq m ρ _ _ (fun c => (hin c).1) (fun c => (hin c).2) c),
        (h.1 c (0 : Fin 3)).trans (RingProof.finalA_x m ρ c), (h.1 c (1 : Fin 3)).trans (RingProof.finalA_w m ρ c)⟩)
      (RingProof.run_main m ρ),
    (θ_run (Cert.ReferenceIdeal.defs (F := Ideal)) _ _).mono (fun r h => h.1 0) (RingProof.run_reference m' ρ')⟩

/-- Everything claimed. -/
theorem claim : Cert.Claim := ⟨Cert.Kernel.Gen.facts, Cert.KernelIdeal.Gen.facts, Cert.ReferenceIdeal.Gen.facts,
  frame_kernel, frame_kernelIdeal, frame_reference, trivial, value⟩

end Cert.Proof

end
